-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![32, 128, 1024]⟩ ⟨3, ![512, 128, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x128x1024 : Shape := ⟨3, ![32, 128, 1024]⟩
abbrev S128x1024 : Shape := ⟨2, ![128, 1024]⟩
abbrev S15x128x1024 : Shape := ⟨3, ![15, 128, 1024]⟩
abbrev S15x4 : Shape := ⟨2, ![15, 4]⟩
abbrev S_ : Shape := ⟨0, ![]⟩
abbrev S1x32x1024 : Shape := ⟨3, ![1, 32, 1024]⟩
abbrev S32x1024 : Shape := ⟨2, ![32, 1024]⟩
abbrev S1x1 : Shape := ⟨2, ![1, 1]⟩

abbrev nBuf : Space → Nat
  | .hbm => 2
  | .vmem => 6
  | .smem => 0
  | _ => 0

abbrev bufTy : (tb : Table) → Fin (tcTables nBuf tb) → BufTy
  | .hbm, ⟨0, _⟩ => ⟨S32x128x1024, .bf16⟩
  | .hbm, ⟨1, _⟩ => ⟨S32x128x1024, .bf16⟩
  | .local _ .vmem, ⟨0, _⟩ => ⟨S32x128x1024, .bf16⟩
  | .local _ .vmem, ⟨1, _⟩ => ⟨S32x128x1024, .bf16⟩
  | .local _ .vmem, ⟨2, _⟩ => ⟨S128x1024, .bf16⟩
  | .local _ .vmem, ⟨3, _⟩ => ⟨S128x1024, .bf16⟩
  | .local _ .vmem, ⟨4, _⟩ => ⟨S15x128x1024, .bf16⟩
  | .local _ .vmem, ⟨5, _⟩ => ⟨S15x128x1024, .bf16⟩
  | _, _ => ⟨S32x128x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 482 → Bool
  | ⟨i, _⟩ => dmaSemScopedAt i

abbrev sig : RefSig :=
  (ofTc nBuf bufTy 1 482 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8 : BitVec 32 := 1#32
  let v11 : BitVec 32 := Scalar.muli v4 c1_i32_8
  let v12 : BitVec 32 := Scalar.addi c0_i32_9 v11
  v12.toNat
def k0_off1 (d0 : Dev nD) (c0_i32_10 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v13 : BitVec 32 := Scalar.subi v2 c0_i32_10
  let c32_i32 : BitVec 32 := 32#32
  let v14 : BitVec 32 := Scalar.addi v13 c32_i32
  let c16_i32_11 : BitVec 32 := 16#32
  let v15 : BitVec 32 := Scalar.remsi v14 c16_i32_11
  let v19 : Index := Scalar.indexCast v15
  let c0 : Index := 0#32
  let c0_15 : Index := 0#32
  ![v19.toNat, 0, 0]
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_23 : BitVec 32 := 1#32
  let v25 : BitVec 32 := Scalar.muli v4 c1_i32_23
  let v26 : BitVec 32 := Scalar.addi c0_i32_24 v25
  v26.toNat
def k0_off2 (d0 : Dev nD) (c0_i32_12 : BitVec 32) : Fin 3 → Nat :=
  let c16_i32_14 : BitVec 32 := 16#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v16 : BitVec 32 := Scalar.addi v2 c0_i32_12
  let c16_i32_13 : BitVec 32 := 16#32
  let v17 : BitVec 32 := Scalar.remsi v16 c16_i32_13
  let v18 : BitVec 32 := Scalar.addi c16_i32_14 v17
  let v34 : Index := Scalar.indexCast v18
  let c0_29 : Index := 0#32
  let c0_30 : Index := 0#32
  ![v34.toNat, 0, 0]
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_38 : BitVec 32 := 1#32
  let v40 : BitVec 32 := Scalar.muli v7 c1_i32_38
  let v41 : BitVec 32 := Scalar.addi c0_i32_39 v40
  v41.toNat
def k0_off3 (d0 : Dev nD) (c0_i32_10 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v13 : BitVec 32 := Scalar.subi v2 c0_i32_10
  let c32_i32 : BitVec 32 := 32#32
  let v14 : BitVec 32 := Scalar.addi v13 c32_i32
  let c16_i32_11 : BitVec 32 := 16#32
  let v15 : BitVec 32 := Scalar.remsi v14 c16_i32_11
  let v49 : Index := Scalar.indexCast v15
  let c32 : Index := 32#32
  let c0_44 : Index := 0#32
  ![v49.toNat, 32, 0]
def k0_dev5 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_52 : BitVec 32 := 1#32
  let v55 : BitVec 32 := Scalar.muli v4 c1_i32_52
  let v56 : BitVec 32 := Scalar.addi c0_i32_53 v55
  v56.toNat
def k0_off4 (d0 : Dev nD) (c0_i32_12 : BitVec 32) : Fin 3 → Nat :=
  let c16_i32_14 : BitVec 32 := 16#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v16 : BitVec 32 := Scalar.addi v2 c0_i32_12
  let c16_i32_13 : BitVec 32 := 16#32
  let v17 : BitVec 32 := Scalar.remsi v16 c16_i32_13
  let v18 : BitVec 32 := Scalar.addi c16_i32_14 v17
  let v64 : Index := Scalar.indexCast v18
  let c32_58 : Index := 32#32
  let c0_59 : Index := 0#32
  ![v64.toNat, 32, 0]
def k0_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_67 : BitVec 32 := 1#32
  let v70 : BitVec 32 := Scalar.muli v7 c1_i32_67
  let v71 : BitVec 32 := Scalar.addi c0_i32_68 v70
  v71.toNat
def k0_off5 (d0 : Dev nD) (c0_i32_10 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v13 : BitVec 32 := Scalar.subi v2 c0_i32_10
  let c32_i32 : BitVec 32 := 32#32
  let v14 : BitVec 32 := Scalar.addi v13 c32_i32
  let c16_i32_11 : BitVec 32 := 16#32
  let v15 : BitVec 32 := Scalar.remsi v14 c16_i32_11
  let v79 : Index := Scalar.indexCast v15
  let c64 : Index := 64#32
  let c0_73 : Index := 0#32
  ![v79.toNat, 64, 0]
def k0_dev7 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_81 : BitVec 32 := 1#32
  let v85 : BitVec 32 := Scalar.muli v4 c1_i32_81
  let v86 : BitVec 32 := Scalar.addi c0_i32_82 v85
  v86.toNat
def k0_off6 (d0 : Dev nD) (c0_i32_12 : BitVec 32) : Fin 3 → Nat :=
  let c16_i32_14 : BitVec 32 := 16#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v16 : BitVec 32 := Scalar.addi v2 c0_i32_12
  let c16_i32_13 : BitVec 32 := 16#32
  let v17 : BitVec 32 := Scalar.remsi v16 c16_i32_13
  let v18 : BitVec 32 := Scalar.addi c16_i32_14 v17
  let v94 : Index := Scalar.indexCast v18
  let c64_86 : Index := 64#32
  let c0_87 : Index := 0#32
  ![v94.toNat, 64, 0]
def k0_dev8 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_95 : BitVec 32 := 1#32
  let v100 : BitVec 32 := Scalar.muli v7 c1_i32_95
  let v101 : BitVec 32 := Scalar.addi c0_i32_96 v100
  v101.toNat
def k0_off7 (d0 : Dev nD) (c0_i32_10 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v13 : BitVec 32 := Scalar.subi v2 c0_i32_10
  let c32_i32 : BitVec 32 := 32#32
  let v14 : BitVec 32 := Scalar.addi v13 c32_i32
  let c16_i32_11 : BitVec 32 := 16#32
  let v15 : BitVec 32 := Scalar.remsi v14 c16_i32_11
  let v109 : Index := Scalar.indexCast v15
  let c96 : Index := 96#32
  let c0_101 : Index := 0#32
  ![v109.toNat, 96, 0]
def k0_dev9 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_108 : BitVec 32 := 1#32
  let v115 : BitVec 32 := Scalar.muli v4 c1_i32_108
  let v116 : BitVec 32 := Scalar.addi c0_i32_109 v115
  v116.toNat
def k0_off8 (d0 : Dev nD) (c0_i32_12 : BitVec 32) : Fin 3 → Nat :=
  let c16_i32_14 : BitVec 32 := 16#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v16 : BitVec 32 := Scalar.addi v2 c0_i32_12
  let c16_i32_13 : BitVec 32 := 16#32
  let v17 : BitVec 32 := Scalar.remsi v16 c16_i32_13
  let v18 : BitVec 32 := Scalar.addi c16_i32_14 v17
  let v124 : Index := Scalar.indexCast v18
  let c96_113 : Index := 96#32
  let c0_114 : Index := 0#32
  ![v124.toNat, 96, 0]
def k0_dev10 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_122 : BitVec 32 := 1#32
  let v130 : BitVec 32 := Scalar.muli v7 c1_i32_122
  let v131 : BitVec 32 := Scalar.addi c0_i32_123 v130
  v131.toNat
def k0_dev11 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_159 : BitVec 32 := 1#32
  let v161 : BitVec 32 := Scalar.muli v4 c1_i32_159
  let v162 : BitVec 32 := Scalar.addi c0_i32_160 v161
  v162.toNat
def k0_dev12 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_190 : BitVec 32 := 1#32
  let v187 : BitVec 32 := Scalar.muli v7 c1_i32_190
  let v188 : BitVec 32 := Scalar.addi c0_i32_191 v187
  v188.toNat
def k0_dev13 (d0 : Dev nD) : Nat :=
  let c0_i32_222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_221 : BitVec 32 := 1#32
  let v213 : BitVec 32 := Scalar.muli v4 c1_i32_221
  let v214 : BitVec 32 := Scalar.addi c0_i32_222 v213
  v214.toNat
def k0_dev14 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_252 : BitVec 32 := 1#32
  let v239 : BitVec 32 := Scalar.muli v7 c1_i32_252
  let v240 : BitVec 32 := Scalar.addi c0_i32_253 v239
  v240.toNat
def k0_dev15 (d0 : Dev nD) : Nat :=
  let c0_i32_284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_283 : BitVec 32 := 1#32
  let v265 : BitVec 32 := Scalar.muli v4 c1_i32_283
  let v266 : BitVec 32 := Scalar.addi c0_i32_284 v265
  v266.toNat
def k0_dev16 (d0 : Dev nD) : Nat :=
  let c0_i32_315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_314 : BitVec 32 := 1#32
  let v291 : BitVec 32 := Scalar.muli v7 c1_i32_314
  let v292 : BitVec 32 := Scalar.addi c0_i32_315 v291
  v292.toNat
def k0_dev17 (d0 : Dev nD) : Nat :=
  let c0_i32_346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_345 : BitVec 32 := 1#32
  let v317 : BitVec 32 := Scalar.muli v4 c1_i32_345
  let v318 : BitVec 32 := Scalar.addi c0_i32_346 v317
  v318.toNat
def k0_dev18 (d0 : Dev nD) : Nat :=
  let c0_i32_377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_376 : BitVec 32 := 1#32
  let v343 : BitVec 32 := Scalar.muli v7 c1_i32_376
  let v344 : BitVec 32 := Scalar.addi c0_i32_377 v343
  v344.toNat
def k0_dev19 (d0 : Dev nD) : Nat :=
  let c0_i32_424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_423 : BitVec 32 := 1#32
  let v381 : BitVec 32 := Scalar.muli v4 c1_i32_423
  let v382 : BitVec 32 := Scalar.addi c0_i32_424 v381
  v382.toNat
def k0_dev20 (d0 : Dev nD) : Nat :=
  let c0_i32_466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_465 : BitVec 32 := 1#32
  let v413 : BitVec 32 := Scalar.muli v7 c1_i32_465
  let v414 : BitVec 32 := Scalar.addi c0_i32_466 v413
  v414.toNat
def k0_dev21 (d0 : Dev nD) : Nat :=
  let c0_i32_508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_507 : BitVec 32 := 1#32
  let v445 : BitVec 32 := Scalar.muli v4 c1_i32_507
  let v446 : BitVec 32 := Scalar.addi c0_i32_508 v445
  v446.toNat
def k0_dev22 (d0 : Dev nD) : Nat :=
  let c0_i32_550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_549 : BitVec 32 := 1#32
  let v477 : BitVec 32 := Scalar.muli v7 c1_i32_549
  let v478 : BitVec 32 := Scalar.addi c0_i32_550 v477
  v478.toNat
def k0_dev23 (d0 : Dev nD) : Nat :=
  let c0_i32_592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_591 : BitVec 32 := 1#32
  let v509 : BitVec 32 := Scalar.muli v4 c1_i32_591
  let v510 : BitVec 32 := Scalar.addi c0_i32_592 v509
  v510.toNat
def k0_dev24 (d0 : Dev nD) : Nat :=
  let c0_i32_634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_633 : BitVec 32 := 1#32
  let v541 : BitVec 32 := Scalar.muli v7 c1_i32_633
  let v542 : BitVec 32 := Scalar.addi c0_i32_634 v541
  v542.toNat
def k0_dev25 (d0 : Dev nD) : Nat :=
  let c0_i32_676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_675 : BitVec 32 := 1#32
  let v573 : BitVec 32 := Scalar.muli v4 c1_i32_675
  let v574 : BitVec 32 := Scalar.addi c0_i32_676 v573
  v574.toNat
def k0_dev26 (d0 : Dev nD) : Nat :=
  let c0_i32_718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_717 : BitVec 32 := 1#32
  let v605 : BitVec 32 := Scalar.muli v7 c1_i32_717
  let v606 : BitVec 32 := Scalar.addi c0_i32_718 v605
  v606.toNat
def k0_dev27 (d0 : Dev nD) : Nat :=
  let c0_i32_766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_765 : BitVec 32 := 1#32
  let v644 : BitVec 32 := Scalar.muli v4 c1_i32_765
  let v645 : BitVec 32 := Scalar.addi c0_i32_766 v644
  v645.toNat
def k0_dev28 (d0 : Dev nD) : Nat :=
  let c0_i32_809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_808 : BitVec 32 := 1#32
  let v677 : BitVec 32 := Scalar.muli v7 c1_i32_808
  let v678 : BitVec 32 := Scalar.addi c0_i32_809 v677
  v678.toNat
def k0_dev29 (d0 : Dev nD) : Nat :=
  let c0_i32_852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_851 : BitVec 32 := 1#32
  let v710 : BitVec 32 := Scalar.muli v4 c1_i32_851
  let v711 : BitVec 32 := Scalar.addi c0_i32_852 v710
  v711.toNat
def k0_dev30 (d0 : Dev nD) : Nat :=
  let c0_i32_895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_894 : BitVec 32 := 1#32
  let v743 : BitVec 32 := Scalar.muli v7 c1_i32_894
  let v744 : BitVec 32 := Scalar.addi c0_i32_895 v743
  v744.toNat
def k0_dev31 (d0 : Dev nD) : Nat :=
  let c0_i32_938 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_937 : BitVec 32 := 1#32
  let v776 : BitVec 32 := Scalar.muli v4 c1_i32_937
  let v777 : BitVec 32 := Scalar.addi c0_i32_938 v776
  v777.toNat
def k0_dev32 (d0 : Dev nD) : Nat :=
  let c0_i32_981 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_980 : BitVec 32 := 1#32
  let v809 : BitVec 32 := Scalar.muli v7 c1_i32_980
  let v810 : BitVec 32 := Scalar.addi c0_i32_981 v809
  v810.toNat
def k0_dev33 (d0 : Dev nD) : Nat :=
  let c0_i32_1024 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1023 : BitVec 32 := 1#32
  let v842 : BitVec 32 := Scalar.muli v4 c1_i32_1023
  let v843 : BitVec 32 := Scalar.addi c0_i32_1024 v842
  v843.toNat
def k0_dev34 (d0 : Dev nD) : Nat :=
  let c0_i32_1067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1066 : BitVec 32 := 1#32
  let v875 : BitVec 32 := Scalar.muli v7 c1_i32_1066
  let v876 : BitVec 32 := Scalar.addi c0_i32_1067 v875
  v876.toNat
def k0_dev35 (d0 : Dev nD) : Nat :=
  let c0_i32_1114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1113 : BitVec 32 := 1#32
  let v914 : BitVec 32 := Scalar.muli v4 c1_i32_1113
  let v915 : BitVec 32 := Scalar.addi c0_i32_1114 v914
  v915.toNat
def k0_dev36 (d0 : Dev nD) : Nat :=
  let c0_i32_1157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1156 : BitVec 32 := 1#32
  let v947 : BitVec 32 := Scalar.muli v7 c1_i32_1156
  let v948 : BitVec 32 := Scalar.addi c0_i32_1157 v947
  v948.toNat
def k0_dev37 (d0 : Dev nD) : Nat :=
  let c0_i32_1200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1199 : BitVec 32 := 1#32
  let v980 : BitVec 32 := Scalar.muli v4 c1_i32_1199
  let v981 : BitVec 32 := Scalar.addi c0_i32_1200 v980
  v981.toNat
def k0_dev38 (d0 : Dev nD) : Nat :=
  let c0_i32_1243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1242 : BitVec 32 := 1#32
  let v1013 : BitVec 32 := Scalar.muli v7 c1_i32_1242
  let v1014 : BitVec 32 := Scalar.addi c0_i32_1243 v1013
  v1014.toNat
def k0_dev39 (d0 : Dev nD) : Nat :=
  let c0_i32_1286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1285 : BitVec 32 := 1#32
  let v1046 : BitVec 32 := Scalar.muli v4 c1_i32_1285
  let v1047 : BitVec 32 := Scalar.addi c0_i32_1286 v1046
  v1047.toNat
def k0_dev40 (d0 : Dev nD) : Nat :=
  let c0_i32_1329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1328 : BitVec 32 := 1#32
  let v1079 : BitVec 32 := Scalar.muli v7 c1_i32_1328
  let v1080 : BitVec 32 := Scalar.addi c0_i32_1329 v1079
  v1080.toNat
def k0_dev41 (d0 : Dev nD) : Nat :=
  let c0_i32_1372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1371 : BitVec 32 := 1#32
  let v1112 : BitVec 32 := Scalar.muli v4 c1_i32_1371
  let v1113 : BitVec 32 := Scalar.addi c0_i32_1372 v1112
  v1113.toNat
def k0_dev42 (d0 : Dev nD) : Nat :=
  let c0_i32_1415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1414 : BitVec 32 := 1#32
  let v1145 : BitVec 32 := Scalar.muli v7 c1_i32_1414
  let v1146 : BitVec 32 := Scalar.addi c0_i32_1415 v1145
  v1146.toNat
def k0_dev43 (d0 : Dev nD) : Nat :=
  let c0_i32_1462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1461 : BitVec 32 := 1#32
  let v1184 : BitVec 32 := Scalar.muli v4 c1_i32_1461
  let v1185 : BitVec 32 := Scalar.addi c0_i32_1462 v1184
  v1185.toNat
def k0_dev44 (d0 : Dev nD) : Nat :=
  let c0_i32_1505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1504 : BitVec 32 := 1#32
  let v1217 : BitVec 32 := Scalar.muli v7 c1_i32_1504
  let v1218 : BitVec 32 := Scalar.addi c0_i32_1505 v1217
  v1218.toNat
def k0_dev45 (d0 : Dev nD) : Nat :=
  let c0_i32_1548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1547 : BitVec 32 := 1#32
  let v1250 : BitVec 32 := Scalar.muli v4 c1_i32_1547
  let v1251 : BitVec 32 := Scalar.addi c0_i32_1548 v1250
  v1251.toNat
def k0_dev46 (d0 : Dev nD) : Nat :=
  let c0_i32_1591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1590 : BitVec 32 := 1#32
  let v1283 : BitVec 32 := Scalar.muli v7 c1_i32_1590
  let v1284 : BitVec 32 := Scalar.addi c0_i32_1591 v1283
  v1284.toNat
def k0_dev47 (d0 : Dev nD) : Nat :=
  let c0_i32_1634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1633 : BitVec 32 := 1#32
  let v1316 : BitVec 32 := Scalar.muli v4 c1_i32_1633
  let v1317 : BitVec 32 := Scalar.addi c0_i32_1634 v1316
  v1317.toNat
def k0_dev48 (d0 : Dev nD) : Nat :=
  let c0_i32_1677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1676 : BitVec 32 := 1#32
  let v1349 : BitVec 32 := Scalar.muli v7 c1_i32_1676
  let v1350 : BitVec 32 := Scalar.addi c0_i32_1677 v1349
  v1350.toNat
def k0_dev49 (d0 : Dev nD) : Nat :=
  let c0_i32_1720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1719 : BitVec 32 := 1#32
  let v1382 : BitVec 32 := Scalar.muli v4 c1_i32_1719
  let v1383 : BitVec 32 := Scalar.addi c0_i32_1720 v1382
  v1383.toNat
def k0_dev50 (d0 : Dev nD) : Nat :=
  let c0_i32_1763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1762 : BitVec 32 := 1#32
  let v1415 : BitVec 32 := Scalar.muli v7 c1_i32_1762
  let v1416 : BitVec 32 := Scalar.addi c0_i32_1763 v1415
  v1416.toNat
def k0_dev51 (d0 : Dev nD) : Nat :=
  let c0_i32_1810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1809 : BitVec 32 := 1#32
  let v1454 : BitVec 32 := Scalar.muli v4 c1_i32_1809
  let v1455 : BitVec 32 := Scalar.addi c0_i32_1810 v1454
  v1455.toNat
def k0_dev52 (d0 : Dev nD) : Nat :=
  let c0_i32_1853 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1852 : BitVec 32 := 1#32
  let v1487 : BitVec 32 := Scalar.muli v7 c1_i32_1852
  let v1488 : BitVec 32 := Scalar.addi c0_i32_1853 v1487
  v1488.toNat
def k0_dev53 (d0 : Dev nD) : Nat :=
  let c0_i32_1896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1895 : BitVec 32 := 1#32
  let v1520 : BitVec 32 := Scalar.muli v4 c1_i32_1895
  let v1521 : BitVec 32 := Scalar.addi c0_i32_1896 v1520
  v1521.toNat
def k0_dev54 (d0 : Dev nD) : Nat :=
  let c0_i32_1939 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1938 : BitVec 32 := 1#32
  let v1553 : BitVec 32 := Scalar.muli v7 c1_i32_1938
  let v1554 : BitVec 32 := Scalar.addi c0_i32_1939 v1553
  v1554.toNat
def k0_dev55 (d0 : Dev nD) : Nat :=
  let c0_i32_1982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1981 : BitVec 32 := 1#32
  let v1586 : BitVec 32 := Scalar.muli v4 c1_i32_1981
  let v1587 : BitVec 32 := Scalar.addi c0_i32_1982 v1586
  v1587.toNat
def k0_dev56 (d0 : Dev nD) : Nat :=
  let c0_i32_2025 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2024 : BitVec 32 := 1#32
  let v1619 : BitVec 32 := Scalar.muli v7 c1_i32_2024
  let v1620 : BitVec 32 := Scalar.addi c0_i32_2025 v1619
  v1620.toNat
def k0_dev57 (d0 : Dev nD) : Nat :=
  let c0_i32_2068 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2067 : BitVec 32 := 1#32
  let v1652 : BitVec 32 := Scalar.muli v4 c1_i32_2067
  let v1653 : BitVec 32 := Scalar.addi c0_i32_2068 v1652
  v1653.toNat
def k0_dev58 (d0 : Dev nD) : Nat :=
  let c0_i32_2111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2110 : BitVec 32 := 1#32
  let v1685 : BitVec 32 := Scalar.muli v7 c1_i32_2110
  let v1686 : BitVec 32 := Scalar.addi c0_i32_2111 v1685
  v1686.toNat
def k0_dev59 (d0 : Dev nD) : Nat :=
  let c0_i32_2158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2157 : BitVec 32 := 1#32
  let v1724 : BitVec 32 := Scalar.muli v4 c1_i32_2157
  let v1725 : BitVec 32 := Scalar.addi c0_i32_2158 v1724
  v1725.toNat
def k0_dev60 (d0 : Dev nD) : Nat :=
  let c0_i32_2201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2200 : BitVec 32 := 1#32
  let v1757 : BitVec 32 := Scalar.muli v7 c1_i32_2200
  let v1758 : BitVec 32 := Scalar.addi c0_i32_2201 v1757
  v1758.toNat
def k0_dev61 (d0 : Dev nD) : Nat :=
  let c0_i32_2244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2243 : BitVec 32 := 1#32
  let v1790 : BitVec 32 := Scalar.muli v4 c1_i32_2243
  let v1791 : BitVec 32 := Scalar.addi c0_i32_2244 v1790
  v1791.toNat
def k0_dev62 (d0 : Dev nD) : Nat :=
  let c0_i32_2287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2286 : BitVec 32 := 1#32
  let v1823 : BitVec 32 := Scalar.muli v7 c1_i32_2286
  let v1824 : BitVec 32 := Scalar.addi c0_i32_2287 v1823
  v1824.toNat
def k0_dev63 (d0 : Dev nD) : Nat :=
  let c0_i32_2330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2329 : BitVec 32 := 1#32
  let v1856 : BitVec 32 := Scalar.muli v4 c1_i32_2329
  let v1857 : BitVec 32 := Scalar.addi c0_i32_2330 v1856
  v1857.toNat
def k0_dev64 (d0 : Dev nD) : Nat :=
  let c0_i32_2373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2372 : BitVec 32 := 1#32
  let v1889 : BitVec 32 := Scalar.muli v7 c1_i32_2372
  let v1890 : BitVec 32 := Scalar.addi c0_i32_2373 v1889
  v1890.toNat
def k0_dev65 (d0 : Dev nD) : Nat :=
  let c0_i32_2416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2415 : BitVec 32 := 1#32
  let v1922 : BitVec 32 := Scalar.muli v4 c1_i32_2415
  let v1923 : BitVec 32 := Scalar.addi c0_i32_2416 v1922
  v1923.toNat
def k0_dev66 (d0 : Dev nD) : Nat :=
  let c0_i32_2459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2458 : BitVec 32 := 1#32
  let v1955 : BitVec 32 := Scalar.muli v7 c1_i32_2458
  let v1956 : BitVec 32 := Scalar.addi c0_i32_2459 v1955
  v1956.toNat
def k0_dev67 (d0 : Dev nD) : Nat :=
  let c0_i32_2506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2505 : BitVec 32 := 1#32
  let v1994 : BitVec 32 := Scalar.muli v4 c1_i32_2505
  let v1995 : BitVec 32 := Scalar.addi c0_i32_2506 v1994
  v1995.toNat
def k0_dev68 (d0 : Dev nD) : Nat :=
  let c0_i32_2549 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2548 : BitVec 32 := 1#32
  let v2027 : BitVec 32 := Scalar.muli v7 c1_i32_2548
  let v2028 : BitVec 32 := Scalar.addi c0_i32_2549 v2027
  v2028.toNat
def k0_dev69 (d0 : Dev nD) : Nat :=
  let c0_i32_2592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2591 : BitVec 32 := 1#32
  let v2060 : BitVec 32 := Scalar.muli v4 c1_i32_2591
  let v2061 : BitVec 32 := Scalar.addi c0_i32_2592 v2060
  v2061.toNat
def k0_dev70 (d0 : Dev nD) : Nat :=
  let c0_i32_2635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2634 : BitVec 32 := 1#32
  let v2093 : BitVec 32 := Scalar.muli v7 c1_i32_2634
  let v2094 : BitVec 32 := Scalar.addi c0_i32_2635 v2093
  v2094.toNat
def k0_dev71 (d0 : Dev nD) : Nat :=
  let c0_i32_2678 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2677 : BitVec 32 := 1#32
  let v2126 : BitVec 32 := Scalar.muli v4 c1_i32_2677
  let v2127 : BitVec 32 := Scalar.addi c0_i32_2678 v2126
  v2127.toNat
def k0_dev72 (d0 : Dev nD) : Nat :=
  let c0_i32_2721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2720 : BitVec 32 := 1#32
  let v2159 : BitVec 32 := Scalar.muli v7 c1_i32_2720
  let v2160 : BitVec 32 := Scalar.addi c0_i32_2721 v2159
  v2160.toNat
def k0_dev73 (d0 : Dev nD) : Nat :=
  let c0_i32_2764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2763 : BitVec 32 := 1#32
  let v2192 : BitVec 32 := Scalar.muli v4 c1_i32_2763
  let v2193 : BitVec 32 := Scalar.addi c0_i32_2764 v2192
  v2193.toNat
def k0_dev74 (d0 : Dev nD) : Nat :=
  let c0_i32_2807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2806 : BitVec 32 := 1#32
  let v2225 : BitVec 32 := Scalar.muli v7 c1_i32_2806
  let v2226 : BitVec 32 := Scalar.addi c0_i32_2807 v2225
  v2226.toNat
def k0_dev75 (d0 : Dev nD) : Nat :=
  let c0_i32_2854 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2853 : BitVec 32 := 1#32
  let v2264 : BitVec 32 := Scalar.muli v4 c1_i32_2853
  let v2265 : BitVec 32 := Scalar.addi c0_i32_2854 v2264
  v2265.toNat
def k0_dev76 (d0 : Dev nD) : Nat :=
  let c0_i32_2897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2896 : BitVec 32 := 1#32
  let v2297 : BitVec 32 := Scalar.muli v7 c1_i32_2896
  let v2298 : BitVec 32 := Scalar.addi c0_i32_2897 v2297
  v2298.toNat
def k0_dev77 (d0 : Dev nD) : Nat :=
  let c0_i32_2940 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2939 : BitVec 32 := 1#32
  let v2330 : BitVec 32 := Scalar.muli v4 c1_i32_2939
  let v2331 : BitVec 32 := Scalar.addi c0_i32_2940 v2330
  v2331.toNat
def k0_dev78 (d0 : Dev nD) : Nat :=
  let c0_i32_2983 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2982 : BitVec 32 := 1#32
  let v2363 : BitVec 32 := Scalar.muli v7 c1_i32_2982
  let v2364 : BitVec 32 := Scalar.addi c0_i32_2983 v2363
  v2364.toNat
def k0_dev79 (d0 : Dev nD) : Nat :=
  let c0_i32_3026 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3025 : BitVec 32 := 1#32
  let v2396 : BitVec 32 := Scalar.muli v4 c1_i32_3025
  let v2397 : BitVec 32 := Scalar.addi c0_i32_3026 v2396
  v2397.toNat
def k0_dev80 (d0 : Dev nD) : Nat :=
  let c0_i32_3069 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3068 : BitVec 32 := 1#32
  let v2429 : BitVec 32 := Scalar.muli v7 c1_i32_3068
  let v2430 : BitVec 32 := Scalar.addi c0_i32_3069 v2429
  v2430.toNat
def k0_dev81 (d0 : Dev nD) : Nat :=
  let c0_i32_3112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3111 : BitVec 32 := 1#32
  let v2462 : BitVec 32 := Scalar.muli v4 c1_i32_3111
  let v2463 : BitVec 32 := Scalar.addi c0_i32_3112 v2462
  v2463.toNat
def k0_dev82 (d0 : Dev nD) : Nat :=
  let c0_i32_3155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3154 : BitVec 32 := 1#32
  let v2495 : BitVec 32 := Scalar.muli v7 c1_i32_3154
  let v2496 : BitVec 32 := Scalar.addi c0_i32_3155 v2495
  v2496.toNat
def k0_dev83 (d0 : Dev nD) : Nat :=
  let c0_i32_3202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3201 : BitVec 32 := 1#32
  let v2534 : BitVec 32 := Scalar.muli v4 c1_i32_3201
  let v2535 : BitVec 32 := Scalar.addi c0_i32_3202 v2534
  v2535.toNat
def k0_dev84 (d0 : Dev nD) : Nat :=
  let c0_i32_3245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3244 : BitVec 32 := 1#32
  let v2567 : BitVec 32 := Scalar.muli v7 c1_i32_3244
  let v2568 : BitVec 32 := Scalar.addi c0_i32_3245 v2567
  v2568.toNat
def k0_dev85 (d0 : Dev nD) : Nat :=
  let c0_i32_3288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3287 : BitVec 32 := 1#32
  let v2600 : BitVec 32 := Scalar.muli v4 c1_i32_3287
  let v2601 : BitVec 32 := Scalar.addi c0_i32_3288 v2600
  v2601.toNat
def k0_dev86 (d0 : Dev nD) : Nat :=
  let c0_i32_3331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3330 : BitVec 32 := 1#32
  let v2633 : BitVec 32 := Scalar.muli v7 c1_i32_3330
  let v2634 : BitVec 32 := Scalar.addi c0_i32_3331 v2633
  v2634.toNat
def k0_dev87 (d0 : Dev nD) : Nat :=
  let c0_i32_3374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3373 : BitVec 32 := 1#32
  let v2666 : BitVec 32 := Scalar.muli v4 c1_i32_3373
  let v2667 : BitVec 32 := Scalar.addi c0_i32_3374 v2666
  v2667.toNat
def k0_dev88 (d0 : Dev nD) : Nat :=
  let c0_i32_3417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3416 : BitVec 32 := 1#32
  let v2699 : BitVec 32 := Scalar.muli v7 c1_i32_3416
  let v2700 : BitVec 32 := Scalar.addi c0_i32_3417 v2699
  v2700.toNat
def k0_dev89 (d0 : Dev nD) : Nat :=
  let c0_i32_3460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3459 : BitVec 32 := 1#32
  let v2732 : BitVec 32 := Scalar.muli v4 c1_i32_3459
  let v2733 : BitVec 32 := Scalar.addi c0_i32_3460 v2732
  v2733.toNat
def k0_dev90 (d0 : Dev nD) : Nat :=
  let c0_i32_3503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3502 : BitVec 32 := 1#32
  let v2765 : BitVec 32 := Scalar.muli v7 c1_i32_3502
  let v2766 : BitVec 32 := Scalar.addi c0_i32_3503 v2765
  v2766.toNat
def k0_dev91 (d0 : Dev nD) : Nat :=
  let c0_i32_3550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3549 : BitVec 32 := 1#32
  let v2804 : BitVec 32 := Scalar.muli v4 c1_i32_3549
  let v2805 : BitVec 32 := Scalar.addi c0_i32_3550 v2804
  v2805.toNat
def k0_dev92 (d0 : Dev nD) : Nat :=
  let c0_i32_3593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3592 : BitVec 32 := 1#32
  let v2837 : BitVec 32 := Scalar.muli v7 c1_i32_3592
  let v2838 : BitVec 32 := Scalar.addi c0_i32_3593 v2837
  v2838.toNat
def k0_dev93 (d0 : Dev nD) : Nat :=
  let c0_i32_3636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3635 : BitVec 32 := 1#32
  let v2870 : BitVec 32 := Scalar.muli v4 c1_i32_3635
  let v2871 : BitVec 32 := Scalar.addi c0_i32_3636 v2870
  v2871.toNat
def k0_dev94 (d0 : Dev nD) : Nat :=
  let c0_i32_3679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3678 : BitVec 32 := 1#32
  let v2903 : BitVec 32 := Scalar.muli v7 c1_i32_3678
  let v2904 : BitVec 32 := Scalar.addi c0_i32_3679 v2903
  v2904.toNat
def k0_dev95 (d0 : Dev nD) : Nat :=
  let c0_i32_3722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3721 : BitVec 32 := 1#32
  let v2936 : BitVec 32 := Scalar.muli v4 c1_i32_3721
  let v2937 : BitVec 32 := Scalar.addi c0_i32_3722 v2936
  v2937.toNat
def k0_dev96 (d0 : Dev nD) : Nat :=
  let c0_i32_3765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3764 : BitVec 32 := 1#32
  let v2969 : BitVec 32 := Scalar.muli v7 c1_i32_3764
  let v2970 : BitVec 32 := Scalar.addi c0_i32_3765 v2969
  v2970.toNat
def k0_dev97 (d0 : Dev nD) : Nat :=
  let c0_i32_3808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3807 : BitVec 32 := 1#32
  let v3002 : BitVec 32 := Scalar.muli v4 c1_i32_3807
  let v3003 : BitVec 32 := Scalar.addi c0_i32_3808 v3002
  v3003.toNat
def k0_dev98 (d0 : Dev nD) : Nat :=
  let c0_i32_3851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3850 : BitVec 32 := 1#32
  let v3035 : BitVec 32 := Scalar.muli v7 c1_i32_3850
  let v3036 : BitVec 32 := Scalar.addi c0_i32_3851 v3035
  v3036.toNat
def k0_dev99 (d0 : Dev nD) : Nat :=
  let c0_i32_3898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3897 : BitVec 32 := 1#32
  let v3074 : BitVec 32 := Scalar.muli v4 c1_i32_3897
  let v3075 : BitVec 32 := Scalar.addi c0_i32_3898 v3074
  v3075.toNat
def k0_dev100 (d0 : Dev nD) : Nat :=
  let c0_i32_3941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3940 : BitVec 32 := 1#32
  let v3107 : BitVec 32 := Scalar.muli v7 c1_i32_3940
  let v3108 : BitVec 32 := Scalar.addi c0_i32_3941 v3107
  v3108.toNat
def k0_dev101 (d0 : Dev nD) : Nat :=
  let c0_i32_3984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3983 : BitVec 32 := 1#32
  let v3140 : BitVec 32 := Scalar.muli v4 c1_i32_3983
  let v3141 : BitVec 32 := Scalar.addi c0_i32_3984 v3140
  v3141.toNat
def k0_dev102 (d0 : Dev nD) : Nat :=
  let c0_i32_4027 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4026 : BitVec 32 := 1#32
  let v3173 : BitVec 32 := Scalar.muli v7 c1_i32_4026
  let v3174 : BitVec 32 := Scalar.addi c0_i32_4027 v3173
  v3174.toNat
def k0_dev103 (d0 : Dev nD) : Nat :=
  let c0_i32_4070 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4069 : BitVec 32 := 1#32
  let v3206 : BitVec 32 := Scalar.muli v4 c1_i32_4069
  let v3207 : BitVec 32 := Scalar.addi c0_i32_4070 v3206
  v3207.toNat
def k0_dev104 (d0 : Dev nD) : Nat :=
  let c0_i32_4113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4112 : BitVec 32 := 1#32
  let v3239 : BitVec 32 := Scalar.muli v7 c1_i32_4112
  let v3240 : BitVec 32 := Scalar.addi c0_i32_4113 v3239
  v3240.toNat
def k0_dev105 (d0 : Dev nD) : Nat :=
  let c0_i32_4156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4155 : BitVec 32 := 1#32
  let v3272 : BitVec 32 := Scalar.muli v4 c1_i32_4155
  let v3273 : BitVec 32 := Scalar.addi c0_i32_4156 v3272
  v3273.toNat
def k0_dev106 (d0 : Dev nD) : Nat :=
  let c0_i32_4199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4198 : BitVec 32 := 1#32
  let v3305 : BitVec 32 := Scalar.muli v7 c1_i32_4198
  let v3306 : BitVec 32 := Scalar.addi c0_i32_4199 v3305
  v3306.toNat
def k0_dev107 (d0 : Dev nD) : Nat :=
  let c0_i32_4246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4245 : BitVec 32 := 1#32
  let v3344 : BitVec 32 := Scalar.muli v4 c1_i32_4245
  let v3345 : BitVec 32 := Scalar.addi c0_i32_4246 v3344
  v3345.toNat
def k0_dev108 (d0 : Dev nD) : Nat :=
  let c0_i32_4289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4288 : BitVec 32 := 1#32
  let v3377 : BitVec 32 := Scalar.muli v7 c1_i32_4288
  let v3378 : BitVec 32 := Scalar.addi c0_i32_4289 v3377
  v3378.toNat
def k0_dev109 (d0 : Dev nD) : Nat :=
  let c0_i32_4332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4331 : BitVec 32 := 1#32
  let v3410 : BitVec 32 := Scalar.muli v4 c1_i32_4331
  let v3411 : BitVec 32 := Scalar.addi c0_i32_4332 v3410
  v3411.toNat
def k0_dev110 (d0 : Dev nD) : Nat :=
  let c0_i32_4375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4374 : BitVec 32 := 1#32
  let v3443 : BitVec 32 := Scalar.muli v7 c1_i32_4374
  let v3444 : BitVec 32 := Scalar.addi c0_i32_4375 v3443
  v3444.toNat
def k0_dev111 (d0 : Dev nD) : Nat :=
  let c0_i32_4418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4417 : BitVec 32 := 1#32
  let v3476 : BitVec 32 := Scalar.muli v4 c1_i32_4417
  let v3477 : BitVec 32 := Scalar.addi c0_i32_4418 v3476
  v3477.toNat
def k0_dev112 (d0 : Dev nD) : Nat :=
  let c0_i32_4461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4460 : BitVec 32 := 1#32
  let v3509 : BitVec 32 := Scalar.muli v7 c1_i32_4460
  let v3510 : BitVec 32 := Scalar.addi c0_i32_4461 v3509
  v3510.toNat
def k0_dev113 (d0 : Dev nD) : Nat :=
  let c0_i32_4504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4503 : BitVec 32 := 1#32
  let v3542 : BitVec 32 := Scalar.muli v4 c1_i32_4503
  let v3543 : BitVec 32 := Scalar.addi c0_i32_4504 v3542
  v3543.toNat
def k0_dev114 (d0 : Dev nD) : Nat :=
  let c0_i32_4547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4546 : BitVec 32 := 1#32
  let v3575 : BitVec 32 := Scalar.muli v7 c1_i32_4546
  let v3576 : BitVec 32 := Scalar.addi c0_i32_4547 v3575
  v3576.toNat
def k0_dev115 (d0 : Dev nD) : Nat :=
  let c0_i32_4594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4593 : BitVec 32 := 1#32
  let v3614 : BitVec 32 := Scalar.muli v4 c1_i32_4593
  let v3615 : BitVec 32 := Scalar.addi c0_i32_4594 v3614
  v3615.toNat
def k0_dev116 (d0 : Dev nD) : Nat :=
  let c0_i32_4637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4636 : BitVec 32 := 1#32
  let v3647 : BitVec 32 := Scalar.muli v7 c1_i32_4636
  let v3648 : BitVec 32 := Scalar.addi c0_i32_4637 v3647
  v3648.toNat
def k0_dev117 (d0 : Dev nD) : Nat :=
  let c0_i32_4680 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4679 : BitVec 32 := 1#32
  let v3680 : BitVec 32 := Scalar.muli v4 c1_i32_4679
  let v3681 : BitVec 32 := Scalar.addi c0_i32_4680 v3680
  v3681.toNat
def k0_dev118 (d0 : Dev nD) : Nat :=
  let c0_i32_4723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4722 : BitVec 32 := 1#32
  let v3713 : BitVec 32 := Scalar.muli v7 c1_i32_4722
  let v3714 : BitVec 32 := Scalar.addi c0_i32_4723 v3713
  v3714.toNat
def k0_dev119 (d0 : Dev nD) : Nat :=
  let c0_i32_4766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4765 : BitVec 32 := 1#32
  let v3746 : BitVec 32 := Scalar.muli v4 c1_i32_4765
  let v3747 : BitVec 32 := Scalar.addi c0_i32_4766 v3746
  v3747.toNat
def k0_dev120 (d0 : Dev nD) : Nat :=
  let c0_i32_4809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4808 : BitVec 32 := 1#32
  let v3779 : BitVec 32 := Scalar.muli v7 c1_i32_4808
  let v3780 : BitVec 32 := Scalar.addi c0_i32_4809 v3779
  v3780.toNat
def k0_dev121 (d0 : Dev nD) : Nat :=
  let c0_i32_4852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4851 : BitVec 32 := 1#32
  let v3812 : BitVec 32 := Scalar.muli v4 c1_i32_4851
  let v3813 : BitVec 32 := Scalar.addi c0_i32_4852 v3812
  v3813.toNat
def k0_dev122 (d0 : Dev nD) : Nat :=
  let c0_i32_4895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4894 : BitVec 32 := 1#32
  let v3845 : BitVec 32 := Scalar.muli v7 c1_i32_4894
  let v3846 : BitVec 32 := Scalar.addi c0_i32_4895 v3845
  v3846.toNat
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4900 : BitVec 32 := 1#32
  let v3855 : BitVec 32 := Scalar.addi v2 c1_i32_4900
  let c16_i32_4901 : BitVec 32 := 16#32
  let v3856 : BitVec 32 := Scalar.remsi v3855 c16_i32_4901
  let v3886 : Index := Scalar.indexCast v3856
  let c0_4940 : Index := 0#32
  let c0_4941 : Index := 0#32
  ![v3886.toNat, 0, 0]
def k0_off10 (d0 : Dev nD) (c0_i32_4907 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4906 : BitVec 32 := 1#32
  let v3861 : BitVec 32 := Scalar.addi v2 c1_i32_4906
  let v3862 : BitVec 32 := Scalar.subi v3861 c0_i32_4907
  let c32_i32_4908 : BitVec 32 := 32#32
  let v3863 : BitVec 32 := Scalar.addi v3862 c32_i32_4908
  let c16_i32_4909 : BitVec 32 := 16#32
  let v3864 : BitVec 32 := Scalar.remsi v3863 c16_i32_4909
  let c0_i32_4950 : BitVec 32 := 0#32
  let c0_i32_4951 : BitVec 32 := 0#32
  ![v3864.toNat, 0, 0]
def k0_dev123 (d0 : Dev nD) : Nat :=
  let c0_i32_4949 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4948 : BitVec 32 := 1#32
  let v3894 : BitVec 32 := Scalar.muli v4 c1_i32_4948
  let v3895 : BitVec 32 := Scalar.addi c0_i32_4949 v3894
  v3895.toNat
def k0_off11 (d0 : Dev nD) : Fin 3 → Nat :=
  let c16_i32_4905 : BitVec 32 := 16#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_4902 : BitVec 32 := 16#32
  let v3857 : BitVec 32 := Scalar.addi v2 c16_i32_4902
  let c1_i32_4903 : BitVec 32 := 1#32
  let v3858 : BitVec 32 := Scalar.subi v3857 c1_i32_4903
  let c16_i32_4904 : BitVec 32 := 16#32
  let v3859 : BitVec 32 := Scalar.remsi v3858 c16_i32_4904
  let v3860 : BitVec 32 := Scalar.addi c16_i32_4905 v3859
  let v3920 : Index := Scalar.indexCast v3860
  let c0_4980 : Index := 0#32
  let c0_4981 : Index := 0#32
  ![v3920.toNat, 0, 0]
def k0_off12 (d0 : Dev nD) (c0_i32_4911 : BitVec 32) : Fin 3 → Nat :=
  let c16_i32_4914 : BitVec 32 := 16#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4910 : BitVec 32 := 1#32
  let v3865 : BitVec 32 := Scalar.subi v2 c1_i32_4910
  let v3866 : BitVec 32 := Scalar.addi v3865 c0_i32_4911
  let c32_i32_4912 : BitVec 32 := 32#32
  let v3867 : BitVec 32 := Scalar.addi v3866 c32_i32_4912
  let c16_i32_4913 : BitVec 32 := 16#32
  let v3868 : BitVec 32 := Scalar.remsi v3867 c16_i32_4913
  let v3869 : BitVec 32 := Scalar.addi c16_i32_4914 v3868
  let c0_i32_4990 : BitVec 32 := 0#32
  let c0_i32_4991 : BitVec 32 := 0#32
  ![v3869.toNat, 0, 0]
def k0_dev124 (d0 : Dev nD) : Nat :=
  let c0_i32_4989 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4988 : BitVec 32 := 1#32
  let v3928 : BitVec 32 := Scalar.muli v7 c1_i32_4988
  let v3929 : BitVec 32 := Scalar.addi c0_i32_4989 v3928
  v3929.toNat
def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4900 : BitVec 32 := 1#32
  let v3855 : BitVec 32 := Scalar.addi v2 c1_i32_4900
  let c16_i32_4901 : BitVec 32 := 16#32
  let v3856 : BitVec 32 := Scalar.remsi v3855 c16_i32_4901
  let v3954 : Index := Scalar.indexCast v3856
  let c32_5020 : Index := 32#32
  let c0_5021 : Index := 0#32
  ![v3954.toNat, 32, 0]
def k0_off14 (d0 : Dev nD) (c0_i32_4907 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4906 : BitVec 32 := 1#32
  let v3861 : BitVec 32 := Scalar.addi v2 c1_i32_4906
  let v3862 : BitVec 32 := Scalar.subi v3861 c0_i32_4907
  let c32_i32_4908 : BitVec 32 := 32#32
  let v3863 : BitVec 32 := Scalar.addi v3862 c32_i32_4908
  let c16_i32_4909 : BitVec 32 := 16#32
  let v3864 : BitVec 32 := Scalar.remsi v3863 c16_i32_4909
  let c32_i32_5030 : BitVec 32 := 32#32
  let c0_i32_5031 : BitVec 32 := 0#32
  ![v3864.toNat, 32, 0]
def k0_dev125 (d0 : Dev nD) : Nat :=
  let c0_i32_5029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5028 : BitVec 32 := 1#32
  let v3962 : BitVec 32 := Scalar.muli v4 c1_i32_5028
  let v3963 : BitVec 32 := Scalar.addi c0_i32_5029 v3962
  v3963.toNat
def k0_off15 (d0 : Dev nD) : Fin 3 → Nat :=
  let c16_i32_4905 : BitVec 32 := 16#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_4902 : BitVec 32 := 16#32
  let v3857 : BitVec 32 := Scalar.addi v2 c16_i32_4902
  let c1_i32_4903 : BitVec 32 := 1#32
  let v3858 : BitVec 32 := Scalar.subi v3857 c1_i32_4903
  let c16_i32_4904 : BitVec 32 := 16#32
  let v3859 : BitVec 32 := Scalar.remsi v3858 c16_i32_4904
  let v3860 : BitVec 32 := Scalar.addi c16_i32_4905 v3859
  let v3988 : Index := Scalar.indexCast v3860
  let c32_5060 : Index := 32#32
  let c0_5061 : Index := 0#32
  ![v3988.toNat, 32, 0]
def k0_off16 (d0 : Dev nD) (c0_i32_4911 : BitVec 32) : Fin 3 → Nat :=
  let c16_i32_4914 : BitVec 32 := 16#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4910 : BitVec 32 := 1#32
  let v3865 : BitVec 32 := Scalar.subi v2 c1_i32_4910
  let v3866 : BitVec 32 := Scalar.addi v3865 c0_i32_4911
  let c32_i32_4912 : BitVec 32 := 32#32
  let v3867 : BitVec 32 := Scalar.addi v3866 c32_i32_4912
  let c16_i32_4913 : BitVec 32 := 16#32
  let v3868 : BitVec 32 := Scalar.remsi v3867 c16_i32_4913
  let v3869 : BitVec 32 := Scalar.addi c16_i32_4914 v3868
  let c32_i32_5070 : BitVec 32 := 32#32
  let c0_i32_5071 : BitVec 32 := 0#32
  ![v3869.toNat, 32, 0]
def k0_dev126 (d0 : Dev nD) : Nat :=
  let c0_i32_5069 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5068 : BitVec 32 := 1#32
  let v3996 : BitVec 32 := Scalar.muli v7 c1_i32_5068
  let v3997 : BitVec 32 := Scalar.addi c0_i32_5069 v3996
  v3997.toNat
def k0_off17 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4900 : BitVec 32 := 1#32
  let v3855 : BitVec 32 := Scalar.addi v2 c1_i32_4900
  let c16_i32_4901 : BitVec 32 := 16#32
  let v3856 : BitVec 32 := Scalar.remsi v3855 c16_i32_4901
  let v4022 : Index := Scalar.indexCast v3856
  let c64_5100 : Index := 64#32
  let c0_5101 : Index := 0#32
  ![v4022.toNat, 64, 0]
def k0_off18 (d0 : Dev nD) (c0_i32_4907 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4906 : BitVec 32 := 1#32
  let v3861 : BitVec 32 := Scalar.addi v2 c1_i32_4906
  let v3862 : BitVec 32 := Scalar.subi v3861 c0_i32_4907
  let c32_i32_4908 : BitVec 32 := 32#32
  let v3863 : BitVec 32 := Scalar.addi v3862 c32_i32_4908
  let c16_i32_4909 : BitVec 32 := 16#32
  let v3864 : BitVec 32 := Scalar.remsi v3863 c16_i32_4909
  let c64_i32_5110 : BitVec 32 := 64#32
  let c0_i32_5111 : BitVec 32 := 0#32
  ![v3864.toNat, 64, 0]
def k0_dev127 (d0 : Dev nD) : Nat :=
  let c0_i32_5109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5108 : BitVec 32 := 1#32
  let v4030 : BitVec 32 := Scalar.muli v4 c1_i32_5108
  let v4031 : BitVec 32 := Scalar.addi c0_i32_5109 v4030
  v4031.toNat
def k0_off19 (d0 : Dev nD) : Fin 3 → Nat :=
  let c16_i32_4905 : BitVec 32 := 16#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_4902 : BitVec 32 := 16#32
  let v3857 : BitVec 32 := Scalar.addi v2 c16_i32_4902
  let c1_i32_4903 : BitVec 32 := 1#32
  let v3858 : BitVec 32 := Scalar.subi v3857 c1_i32_4903
  let c16_i32_4904 : BitVec 32 := 16#32
  let v3859 : BitVec 32 := Scalar.remsi v3858 c16_i32_4904
  let v3860 : BitVec 32 := Scalar.addi c16_i32_4905 v3859
  let v4056 : Index := Scalar.indexCast v3860
  let c64_5140 : Index := 64#32
  let c0_5141 : Index := 0#32
  ![v4056.toNat, 64, 0]
def k0_off20 (d0 : Dev nD) (c0_i32_4911 : BitVec 32) : Fin 3 → Nat :=
  let c16_i32_4914 : BitVec 32 := 16#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4910 : BitVec 32 := 1#32
  let v3865 : BitVec 32 := Scalar.subi v2 c1_i32_4910
  let v3866 : BitVec 32 := Scalar.addi v3865 c0_i32_4911
  let c32_i32_4912 : BitVec 32 := 32#32
  let v3867 : BitVec 32 := Scalar.addi v3866 c32_i32_4912
  let c16_i32_4913 : BitVec 32 := 16#32
  let v3868 : BitVec 32 := Scalar.remsi v3867 c16_i32_4913
  let v3869 : BitVec 32 := Scalar.addi c16_i32_4914 v3868
  let c64_i32_5150 : BitVec 32 := 64#32
  let c0_i32_5151 : BitVec 32 := 0#32
  ![v3869.toNat, 64, 0]
def k0_dev128 (d0 : Dev nD) : Nat :=
  let c0_i32_5149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5148 : BitVec 32 := 1#32
  let v4064 : BitVec 32 := Scalar.muli v7 c1_i32_5148
  let v4065 : BitVec 32 := Scalar.addi c0_i32_5149 v4064
  v4065.toNat
def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4900 : BitVec 32 := 1#32
  let v3855 : BitVec 32 := Scalar.addi v2 c1_i32_4900
  let c16_i32_4901 : BitVec 32 := 16#32
  let v3856 : BitVec 32 := Scalar.remsi v3855 c16_i32_4901
  let v4090 : Index := Scalar.indexCast v3856
  let c96_5180 : Index := 96#32
  let c0_5181 : Index := 0#32
  ![v4090.toNat, 96, 0]
def k0_off22 (d0 : Dev nD) (c0_i32_4907 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4906 : BitVec 32 := 1#32
  let v3861 : BitVec 32 := Scalar.addi v2 c1_i32_4906
  let v3862 : BitVec 32 := Scalar.subi v3861 c0_i32_4907
  let c32_i32_4908 : BitVec 32 := 32#32
  let v3863 : BitVec 32 := Scalar.addi v3862 c32_i32_4908
  let c16_i32_4909 : BitVec 32 := 16#32
  let v3864 : BitVec 32 := Scalar.remsi v3863 c16_i32_4909
  let c96_i32_5190 : BitVec 32 := 96#32
  let c0_i32_5191 : BitVec 32 := 0#32
  ![v3864.toNat, 96, 0]
def k0_dev129 (d0 : Dev nD) : Nat :=
  let c0_i32_5189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5188 : BitVec 32 := 1#32
  let v4098 : BitVec 32 := Scalar.muli v4 c1_i32_5188
  let v4099 : BitVec 32 := Scalar.addi c0_i32_5189 v4098
  v4099.toNat
def k0_off23 (d0 : Dev nD) : Fin 3 → Nat :=
  let c16_i32_4905 : BitVec 32 := 16#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_4902 : BitVec 32 := 16#32
  let v3857 : BitVec 32 := Scalar.addi v2 c16_i32_4902
  let c1_i32_4903 : BitVec 32 := 1#32
  let v3858 : BitVec 32 := Scalar.subi v3857 c1_i32_4903
  let c16_i32_4904 : BitVec 32 := 16#32
  let v3859 : BitVec 32 := Scalar.remsi v3858 c16_i32_4904
  let v3860 : BitVec 32 := Scalar.addi c16_i32_4905 v3859
  let v4124 : Index := Scalar.indexCast v3860
  let c96_5220 : Index := 96#32
  let c0_5221 : Index := 0#32
  ![v4124.toNat, 96, 0]
def k0_off24 (d0 : Dev nD) (c0_i32_4911 : BitVec 32) : Fin 3 → Nat :=
  let c16_i32_4914 : BitVec 32 := 16#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4910 : BitVec 32 := 1#32
  let v3865 : BitVec 32 := Scalar.subi v2 c1_i32_4910
  let v3866 : BitVec 32 := Scalar.addi v3865 c0_i32_4911
  let c32_i32_4912 : BitVec 32 := 32#32
  let v3867 : BitVec 32 := Scalar.addi v3866 c32_i32_4912
  let c16_i32_4913 : BitVec 32 := 16#32
  let v3868 : BitVec 32 := Scalar.remsi v3867 c16_i32_4913
  let v3869 : BitVec 32 := Scalar.addi c16_i32_4914 v3868
  let c96_i32_5230 : BitVec 32 := 96#32
  let c0_i32_5231 : BitVec 32 := 0#32
  ![v3869.toNat, 96, 0]
def k0_dev130 (d0 : Dev nD) : Nat :=
  let c0_i32_5229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5228 : BitVec 32 := 1#32
  let v4132 : BitVec 32 := Scalar.muli v7 c1_i32_5228
  let v4133 : BitVec 32 := Scalar.addi c0_i32_5229 v4132
  v4133.toNat
def k0_dev131 (d0 : Dev nD) : Nat :=
  let c0_i32_5269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5268 : BitVec 32 := 1#32
  let v4165 : BitVec 32 := Scalar.muli v4 c1_i32_5268
  let v4166 : BitVec 32 := Scalar.addi c0_i32_5269 v4165
  v4166.toNat
def k0_dev132 (d0 : Dev nD) : Nat :=
  let c0_i32_5300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5299 : BitVec 32 := 1#32
  let v4189 : BitVec 32 := Scalar.muli v7 c1_i32_5299
  let v4190 : BitVec 32 := Scalar.addi c0_i32_5300 v4189
  v4190.toNat
def k0_dev133 (d0 : Dev nD) : Nat :=
  let c0_i32_5331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5330 : BitVec 32 := 1#32
  let v4213 : BitVec 32 := Scalar.muli v4 c1_i32_5330
  let v4214 : BitVec 32 := Scalar.addi c0_i32_5331 v4213
  v4214.toNat
def k0_dev134 (d0 : Dev nD) : Nat :=
  let c0_i32_5362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5361 : BitVec 32 := 1#32
  let v4237 : BitVec 32 := Scalar.muli v7 c1_i32_5361
  let v4238 : BitVec 32 := Scalar.addi c0_i32_5362 v4237
  v4238.toNat
def k0_dev135 (d0 : Dev nD) : Nat :=
  let c0_i32_5393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5392 : BitVec 32 := 1#32
  let v4261 : BitVec 32 := Scalar.muli v4 c1_i32_5392
  let v4262 : BitVec 32 := Scalar.addi c0_i32_5393 v4261
  v4262.toNat
def k0_dev136 (d0 : Dev nD) : Nat :=
  let c0_i32_5424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5423 : BitVec 32 := 1#32
  let v4285 : BitVec 32 := Scalar.muli v7 c1_i32_5423
  let v4286 : BitVec 32 := Scalar.addi c0_i32_5424 v4285
  v4286.toNat
def k0_dev137 (d0 : Dev nD) : Nat :=
  let c0_i32_5455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5454 : BitVec 32 := 1#32
  let v4309 : BitVec 32 := Scalar.muli v4 c1_i32_5454
  let v4310 : BitVec 32 := Scalar.addi c0_i32_5455 v4309
  v4310.toNat
def k0_dev138 (d0 : Dev nD) : Nat :=
  let c0_i32_5486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5485 : BitVec 32 := 1#32
  let v4333 : BitVec 32 := Scalar.muli v7 c1_i32_5485
  let v4334 : BitVec 32 := Scalar.addi c0_i32_5486 v4333
  v4334.toNat
def k0_dev139 (d0 : Dev nD) : Nat :=
  let c0_i32_5524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5523 : BitVec 32 := 1#32
  let v4366 : BitVec 32 := Scalar.muli v4 c1_i32_5523
  let v4367 : BitVec 32 := Scalar.addi c0_i32_5524 v4366
  v4367.toNat
def k0_dev140 (d0 : Dev nD) : Nat :=
  let c0_i32_5553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5552 : BitVec 32 := 1#32
  let v4390 : BitVec 32 := Scalar.muli v7 c1_i32_5552
  let v4391 : BitVec 32 := Scalar.addi c0_i32_5553 v4390
  v4391.toNat
def k0_dev141 (d0 : Dev nD) : Nat :=
  let c0_i32_5582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5581 : BitVec 32 := 1#32
  let v4414 : BitVec 32 := Scalar.muli v4 c1_i32_5581
  let v4415 : BitVec 32 := Scalar.addi c0_i32_5582 v4414
  v4415.toNat
def k0_dev142 (d0 : Dev nD) : Nat :=
  let c0_i32_5611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5610 : BitVec 32 := 1#32
  let v4438 : BitVec 32 := Scalar.muli v7 c1_i32_5610
  let v4439 : BitVec 32 := Scalar.addi c0_i32_5611 v4438
  v4439.toNat
def k0_dev143 (d0 : Dev nD) : Nat :=
  let c0_i32_5640 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5639 : BitVec 32 := 1#32
  let v4462 : BitVec 32 := Scalar.muli v4 c1_i32_5639
  let v4463 : BitVec 32 := Scalar.addi c0_i32_5640 v4462
  v4463.toNat
def k0_dev144 (d0 : Dev nD) : Nat :=
  let c0_i32_5669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5668 : BitVec 32 := 1#32
  let v4486 : BitVec 32 := Scalar.muli v7 c1_i32_5668
  let v4487 : BitVec 32 := Scalar.addi c0_i32_5669 v4486
  v4487.toNat
def k0_dev145 (d0 : Dev nD) : Nat :=
  let c0_i32_5698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5697 : BitVec 32 := 1#32
  let v4510 : BitVec 32 := Scalar.muli v4 c1_i32_5697
  let v4511 : BitVec 32 := Scalar.addi c0_i32_5698 v4510
  v4511.toNat
def k0_dev146 (d0 : Dev nD) : Nat :=
  let c0_i32_5727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5726 : BitVec 32 := 1#32
  let v4534 : BitVec 32 := Scalar.muli v7 c1_i32_5726
  let v4535 : BitVec 32 := Scalar.addi c0_i32_5727 v4534
  v4535.toNat
def k0_dev147 (d0 : Dev nD) : Nat :=
  let c0_i32_5765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5764 : BitVec 32 := 1#32
  let v4567 : BitVec 32 := Scalar.muli v4 c1_i32_5764
  let v4568 : BitVec 32 := Scalar.addi c0_i32_5765 v4567
  v4568.toNat
def k0_dev148 (d0 : Dev nD) : Nat :=
  let c0_i32_5794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5793 : BitVec 32 := 1#32
  let v4591 : BitVec 32 := Scalar.muli v7 c1_i32_5793
  let v4592 : BitVec 32 := Scalar.addi c0_i32_5794 v4591
  v4592.toNat
def k0_dev149 (d0 : Dev nD) : Nat :=
  let c0_i32_5823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5822 : BitVec 32 := 1#32
  let v4615 : BitVec 32 := Scalar.muli v4 c1_i32_5822
  let v4616 : BitVec 32 := Scalar.addi c0_i32_5823 v4615
  v4616.toNat
def k0_dev150 (d0 : Dev nD) : Nat :=
  let c0_i32_5852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5851 : BitVec 32 := 1#32
  let v4639 : BitVec 32 := Scalar.muli v7 c1_i32_5851
  let v4640 : BitVec 32 := Scalar.addi c0_i32_5852 v4639
  v4640.toNat
def k0_dev151 (d0 : Dev nD) : Nat :=
  let c0_i32_5881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5880 : BitVec 32 := 1#32
  let v4663 : BitVec 32 := Scalar.muli v4 c1_i32_5880
  let v4664 : BitVec 32 := Scalar.addi c0_i32_5881 v4663
  v4664.toNat
def k0_dev152 (d0 : Dev nD) : Nat :=
  let c0_i32_5910 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5909 : BitVec 32 := 1#32
  let v4687 : BitVec 32 := Scalar.muli v7 c1_i32_5909
  let v4688 : BitVec 32 := Scalar.addi c0_i32_5910 v4687
  v4688.toNat
def k0_dev153 (d0 : Dev nD) : Nat :=
  let c0_i32_5939 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5938 : BitVec 32 := 1#32
  let v4711 : BitVec 32 := Scalar.muli v4 c1_i32_5938
  let v4712 : BitVec 32 := Scalar.addi c0_i32_5939 v4711
  v4712.toNat
def k0_dev154 (d0 : Dev nD) : Nat :=
  let c0_i32_5968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5967 : BitVec 32 := 1#32
  let v4735 : BitVec 32 := Scalar.muli v7 c1_i32_5967
  let v4736 : BitVec 32 := Scalar.addi c0_i32_5968 v4735
  v4736.toNat
def k0_dev155 (d0 : Dev nD) : Nat :=
  let c0_i32_6006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6005 : BitVec 32 := 1#32
  let v4768 : BitVec 32 := Scalar.muli v4 c1_i32_6005
  let v4769 : BitVec 32 := Scalar.addi c0_i32_6006 v4768
  v4769.toNat
def k0_dev156 (d0 : Dev nD) : Nat :=
  let c0_i32_6035 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6034 : BitVec 32 := 1#32
  let v4792 : BitVec 32 := Scalar.muli v7 c1_i32_6034
  let v4793 : BitVec 32 := Scalar.addi c0_i32_6035 v4792
  v4793.toNat
def k0_dev157 (d0 : Dev nD) : Nat :=
  let c0_i32_6064 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6063 : BitVec 32 := 1#32
  let v4816 : BitVec 32 := Scalar.muli v4 c1_i32_6063
  let v4817 : BitVec 32 := Scalar.addi c0_i32_6064 v4816
  v4817.toNat
def k0_dev158 (d0 : Dev nD) : Nat :=
  let c0_i32_6093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6092 : BitVec 32 := 1#32
  let v4840 : BitVec 32 := Scalar.muli v7 c1_i32_6092
  let v4841 : BitVec 32 := Scalar.addi c0_i32_6093 v4840
  v4841.toNat
def k0_dev159 (d0 : Dev nD) : Nat :=
  let c0_i32_6122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6121 : BitVec 32 := 1#32
  let v4864 : BitVec 32 := Scalar.muli v4 c1_i32_6121
  let v4865 : BitVec 32 := Scalar.addi c0_i32_6122 v4864
  v4865.toNat
def k0_dev160 (d0 : Dev nD) : Nat :=
  let c0_i32_6151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6150 : BitVec 32 := 1#32
  let v4888 : BitVec 32 := Scalar.muli v7 c1_i32_6150
  let v4889 : BitVec 32 := Scalar.addi c0_i32_6151 v4888
  v4889.toNat
def k0_dev161 (d0 : Dev nD) : Nat :=
  let c0_i32_6180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6179 : BitVec 32 := 1#32
  let v4912 : BitVec 32 := Scalar.muli v4 c1_i32_6179
  let v4913 : BitVec 32 := Scalar.addi c0_i32_6180 v4912
  v4913.toNat
def k0_dev162 (d0 : Dev nD) : Nat :=
  let c0_i32_6209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6208 : BitVec 32 := 1#32
  let v4936 : BitVec 32 := Scalar.muli v7 c1_i32_6208
  let v4937 : BitVec 32 := Scalar.addi c0_i32_6209 v4936
  v4937.toNat
def k0_dev163 (d0 : Dev nD) : Nat :=
  let c0_i32_6247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6246 : BitVec 32 := 1#32
  let v4969 : BitVec 32 := Scalar.muli v4 c1_i32_6246
  let v4970 : BitVec 32 := Scalar.addi c0_i32_6247 v4969
  v4970.toNat
def k0_dev164 (d0 : Dev nD) : Nat :=
  let c0_i32_6276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6275 : BitVec 32 := 1#32
  let v4993 : BitVec 32 := Scalar.muli v7 c1_i32_6275
  let v4994 : BitVec 32 := Scalar.addi c0_i32_6276 v4993
  v4994.toNat
def k0_dev165 (d0 : Dev nD) : Nat :=
  let c0_i32_6305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6304 : BitVec 32 := 1#32
  let v5017 : BitVec 32 := Scalar.muli v4 c1_i32_6304
  let v5018 : BitVec 32 := Scalar.addi c0_i32_6305 v5017
  v5018.toNat
def k0_dev166 (d0 : Dev nD) : Nat :=
  let c0_i32_6334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6333 : BitVec 32 := 1#32
  let v5041 : BitVec 32 := Scalar.muli v7 c1_i32_6333
  let v5042 : BitVec 32 := Scalar.addi c0_i32_6334 v5041
  v5042.toNat
def k0_dev167 (d0 : Dev nD) : Nat :=
  let c0_i32_6363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6362 : BitVec 32 := 1#32
  let v5065 : BitVec 32 := Scalar.muli v4 c1_i32_6362
  let v5066 : BitVec 32 := Scalar.addi c0_i32_6363 v5065
  v5066.toNat
def k0_dev168 (d0 : Dev nD) : Nat :=
  let c0_i32_6392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6391 : BitVec 32 := 1#32
  let v5089 : BitVec 32 := Scalar.muli v7 c1_i32_6391
  let v5090 : BitVec 32 := Scalar.addi c0_i32_6392 v5089
  v5090.toNat
def k0_dev169 (d0 : Dev nD) : Nat :=
  let c0_i32_6421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6420 : BitVec 32 := 1#32
  let v5113 : BitVec 32 := Scalar.muli v4 c1_i32_6420
  let v5114 : BitVec 32 := Scalar.addi c0_i32_6421 v5113
  v5114.toNat
def k0_dev170 (d0 : Dev nD) : Nat :=
  let c0_i32_6450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6449 : BitVec 32 := 1#32
  let v5137 : BitVec 32 := Scalar.muli v7 c1_i32_6449
  let v5138 : BitVec 32 := Scalar.addi c0_i32_6450 v5137
  v5138.toNat
def k0_dev171 (d0 : Dev nD) : Nat :=
  let c0_i32_6488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6487 : BitVec 32 := 1#32
  let v5170 : BitVec 32 := Scalar.muli v4 c1_i32_6487
  let v5171 : BitVec 32 := Scalar.addi c0_i32_6488 v5170
  v5171.toNat
def k0_dev172 (d0 : Dev nD) : Nat :=
  let c0_i32_6517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6516 : BitVec 32 := 1#32
  let v5194 : BitVec 32 := Scalar.muli v7 c1_i32_6516
  let v5195 : BitVec 32 := Scalar.addi c0_i32_6517 v5194
  v5195.toNat
def k0_dev173 (d0 : Dev nD) : Nat :=
  let c0_i32_6546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6545 : BitVec 32 := 1#32
  let v5218 : BitVec 32 := Scalar.muli v4 c1_i32_6545
  let v5219 : BitVec 32 := Scalar.addi c0_i32_6546 v5218
  v5219.toNat
def k0_dev174 (d0 : Dev nD) : Nat :=
  let c0_i32_6575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6574 : BitVec 32 := 1#32
  let v5242 : BitVec 32 := Scalar.muli v7 c1_i32_6574
  let v5243 : BitVec 32 := Scalar.addi c0_i32_6575 v5242
  v5243.toNat
def k0_dev175 (d0 : Dev nD) : Nat :=
  let c0_i32_6604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6603 : BitVec 32 := 1#32
  let v5266 : BitVec 32 := Scalar.muli v4 c1_i32_6603
  let v5267 : BitVec 32 := Scalar.addi c0_i32_6604 v5266
  v5267.toNat
def k0_dev176 (d0 : Dev nD) : Nat :=
  let c0_i32_6633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6632 : BitVec 32 := 1#32
  let v5290 : BitVec 32 := Scalar.muli v7 c1_i32_6632
  let v5291 : BitVec 32 := Scalar.addi c0_i32_6633 v5290
  v5291.toNat
def k0_dev177 (d0 : Dev nD) : Nat :=
  let c0_i32_6662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6661 : BitVec 32 := 1#32
  let v5314 : BitVec 32 := Scalar.muli v4 c1_i32_6661
  let v5315 : BitVec 32 := Scalar.addi c0_i32_6662 v5314
  v5315.toNat
def k0_dev178 (d0 : Dev nD) : Nat :=
  let c0_i32_6691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6690 : BitVec 32 := 1#32
  let v5338 : BitVec 32 := Scalar.muli v7 c1_i32_6690
  let v5339 : BitVec 32 := Scalar.addi c0_i32_6691 v5338
  v5339.toNat
def k0_dev179 (d0 : Dev nD) : Nat :=
  let c0_i32_6729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6728 : BitVec 32 := 1#32
  let v5371 : BitVec 32 := Scalar.muli v4 c1_i32_6728
  let v5372 : BitVec 32 := Scalar.addi c0_i32_6729 v5371
  v5372.toNat
def k0_dev180 (d0 : Dev nD) : Nat :=
  let c0_i32_6758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6757 : BitVec 32 := 1#32
  let v5395 : BitVec 32 := Scalar.muli v7 c1_i32_6757
  let v5396 : BitVec 32 := Scalar.addi c0_i32_6758 v5395
  v5396.toNat
def k0_dev181 (d0 : Dev nD) : Nat :=
  let c0_i32_6787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6786 : BitVec 32 := 1#32
  let v5419 : BitVec 32 := Scalar.muli v4 c1_i32_6786
  let v5420 : BitVec 32 := Scalar.addi c0_i32_6787 v5419
  v5420.toNat
def k0_dev182 (d0 : Dev nD) : Nat :=
  let c0_i32_6816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6815 : BitVec 32 := 1#32
  let v5443 : BitVec 32 := Scalar.muli v7 c1_i32_6815
  let v5444 : BitVec 32 := Scalar.addi c0_i32_6816 v5443
  v5444.toNat
def k0_dev183 (d0 : Dev nD) : Nat :=
  let c0_i32_6845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6844 : BitVec 32 := 1#32
  let v5467 : BitVec 32 := Scalar.muli v4 c1_i32_6844
  let v5468 : BitVec 32 := Scalar.addi c0_i32_6845 v5467
  v5468.toNat
def k0_dev184 (d0 : Dev nD) : Nat :=
  let c0_i32_6874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6873 : BitVec 32 := 1#32
  let v5491 : BitVec 32 := Scalar.muli v7 c1_i32_6873
  let v5492 : BitVec 32 := Scalar.addi c0_i32_6874 v5491
  v5492.toNat
def k0_dev185 (d0 : Dev nD) : Nat :=
  let c0_i32_6903 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6902 : BitVec 32 := 1#32
  let v5515 : BitVec 32 := Scalar.muli v4 c1_i32_6902
  let v5516 : BitVec 32 := Scalar.addi c0_i32_6903 v5515
  v5516.toNat
def k0_dev186 (d0 : Dev nD) : Nat :=
  let c0_i32_6932 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6931 : BitVec 32 := 1#32
  let v5539 : BitVec 32 := Scalar.muli v7 c1_i32_6931
  let v5540 : BitVec 32 := Scalar.addi c0_i32_6932 v5539
  v5540.toNat
def k0_dev187 (d0 : Dev nD) : Nat :=
  let c0_i32_6970 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6969 : BitVec 32 := 1#32
  let v5572 : BitVec 32 := Scalar.muli v4 c1_i32_6969
  let v5573 : BitVec 32 := Scalar.addi c0_i32_6970 v5572
  v5573.toNat
def k0_dev188 (d0 : Dev nD) : Nat :=
  let c0_i32_6999 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6998 : BitVec 32 := 1#32
  let v5596 : BitVec 32 := Scalar.muli v7 c1_i32_6998
  let v5597 : BitVec 32 := Scalar.addi c0_i32_6999 v5596
  v5597.toNat
def k0_dev189 (d0 : Dev nD) : Nat :=
  let c0_i32_7028 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7027 : BitVec 32 := 1#32
  let v5620 : BitVec 32 := Scalar.muli v4 c1_i32_7027
  let v5621 : BitVec 32 := Scalar.addi c0_i32_7028 v5620
  v5621.toNat
def k0_dev190 (d0 : Dev nD) : Nat :=
  let c0_i32_7057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7056 : BitVec 32 := 1#32
  let v5644 : BitVec 32 := Scalar.muli v7 c1_i32_7056
  let v5645 : BitVec 32 := Scalar.addi c0_i32_7057 v5644
  v5645.toNat
def k0_dev191 (d0 : Dev nD) : Nat :=
  let c0_i32_7086 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7085 : BitVec 32 := 1#32
  let v5668 : BitVec 32 := Scalar.muli v4 c1_i32_7085
  let v5669 : BitVec 32 := Scalar.addi c0_i32_7086 v5668
  v5669.toNat
def k0_dev192 (d0 : Dev nD) : Nat :=
  let c0_i32_7115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7114 : BitVec 32 := 1#32
  let v5692 : BitVec 32 := Scalar.muli v7 c1_i32_7114
  let v5693 : BitVec 32 := Scalar.addi c0_i32_7115 v5692
  v5693.toNat
def k0_dev193 (d0 : Dev nD) : Nat :=
  let c0_i32_7144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7143 : BitVec 32 := 1#32
  let v5716 : BitVec 32 := Scalar.muli v4 c1_i32_7143
  let v5717 : BitVec 32 := Scalar.addi c0_i32_7144 v5716
  v5717.toNat
def k0_dev194 (d0 : Dev nD) : Nat :=
  let c0_i32_7173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7172 : BitVec 32 := 1#32
  let v5740 : BitVec 32 := Scalar.muli v7 c1_i32_7172
  let v5741 : BitVec 32 := Scalar.addi c0_i32_7173 v5740
  v5741.toNat
def k0_dev195 (d0 : Dev nD) : Nat :=
  let c0_i32_7211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7210 : BitVec 32 := 1#32
  let v5773 : BitVec 32 := Scalar.muli v4 c1_i32_7210
  let v5774 : BitVec 32 := Scalar.addi c0_i32_7211 v5773
  v5774.toNat
def k0_dev196 (d0 : Dev nD) : Nat :=
  let c0_i32_7240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7239 : BitVec 32 := 1#32
  let v5797 : BitVec 32 := Scalar.muli v7 c1_i32_7239
  let v5798 : BitVec 32 := Scalar.addi c0_i32_7240 v5797
  v5798.toNat
def k0_dev197 (d0 : Dev nD) : Nat :=
  let c0_i32_7269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7268 : BitVec 32 := 1#32
  let v5821 : BitVec 32 := Scalar.muli v4 c1_i32_7268
  let v5822 : BitVec 32 := Scalar.addi c0_i32_7269 v5821
  v5822.toNat
def k0_dev198 (d0 : Dev nD) : Nat :=
  let c0_i32_7298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7297 : BitVec 32 := 1#32
  let v5845 : BitVec 32 := Scalar.muli v7 c1_i32_7297
  let v5846 : BitVec 32 := Scalar.addi c0_i32_7298 v5845
  v5846.toNat
def k0_dev199 (d0 : Dev nD) : Nat :=
  let c0_i32_7327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7326 : BitVec 32 := 1#32
  let v5869 : BitVec 32 := Scalar.muli v4 c1_i32_7326
  let v5870 : BitVec 32 := Scalar.addi c0_i32_7327 v5869
  v5870.toNat
def k0_dev200 (d0 : Dev nD) : Nat :=
  let c0_i32_7356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7355 : BitVec 32 := 1#32
  let v5893 : BitVec 32 := Scalar.muli v7 c1_i32_7355
  let v5894 : BitVec 32 := Scalar.addi c0_i32_7356 v5893
  v5894.toNat
def k0_dev201 (d0 : Dev nD) : Nat :=
  let c0_i32_7385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7384 : BitVec 32 := 1#32
  let v5917 : BitVec 32 := Scalar.muli v4 c1_i32_7384
  let v5918 : BitVec 32 := Scalar.addi c0_i32_7385 v5917
  v5918.toNat
def k0_dev202 (d0 : Dev nD) : Nat :=
  let c0_i32_7414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7413 : BitVec 32 := 1#32
  let v5941 : BitVec 32 := Scalar.muli v7 c1_i32_7413
  let v5942 : BitVec 32 := Scalar.addi c0_i32_7414 v5941
  v5942.toNat
def k0_dev203 (d0 : Dev nD) : Nat :=
  let c0_i32_7452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7451 : BitVec 32 := 1#32
  let v5974 : BitVec 32 := Scalar.muli v4 c1_i32_7451
  let v5975 : BitVec 32 := Scalar.addi c0_i32_7452 v5974
  v5975.toNat
def k0_dev204 (d0 : Dev nD) : Nat :=
  let c0_i32_7481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7480 : BitVec 32 := 1#32
  let v5998 : BitVec 32 := Scalar.muli v7 c1_i32_7480
  let v5999 : BitVec 32 := Scalar.addi c0_i32_7481 v5998
  v5999.toNat
def k0_dev205 (d0 : Dev nD) : Nat :=
  let c0_i32_7510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7509 : BitVec 32 := 1#32
  let v6022 : BitVec 32 := Scalar.muli v4 c1_i32_7509
  let v6023 : BitVec 32 := Scalar.addi c0_i32_7510 v6022
  v6023.toNat
def k0_dev206 (d0 : Dev nD) : Nat :=
  let c0_i32_7539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7538 : BitVec 32 := 1#32
  let v6046 : BitVec 32 := Scalar.muli v7 c1_i32_7538
  let v6047 : BitVec 32 := Scalar.addi c0_i32_7539 v6046
  v6047.toNat
def k0_dev207 (d0 : Dev nD) : Nat :=
  let c0_i32_7568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7567 : BitVec 32 := 1#32
  let v6070 : BitVec 32 := Scalar.muli v4 c1_i32_7567
  let v6071 : BitVec 32 := Scalar.addi c0_i32_7568 v6070
  v6071.toNat
def k0_dev208 (d0 : Dev nD) : Nat :=
  let c0_i32_7597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7596 : BitVec 32 := 1#32
  let v6094 : BitVec 32 := Scalar.muli v7 c1_i32_7596
  let v6095 : BitVec 32 := Scalar.addi c0_i32_7597 v6094
  v6095.toNat
def k0_dev209 (d0 : Dev nD) : Nat :=
  let c0_i32_7626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7625 : BitVec 32 := 1#32
  let v6118 : BitVec 32 := Scalar.muli v4 c1_i32_7625
  let v6119 : BitVec 32 := Scalar.addi c0_i32_7626 v6118
  v6119.toNat
def k0_dev210 (d0 : Dev nD) : Nat :=
  let c0_i32_7655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7654 : BitVec 32 := 1#32
  let v6142 : BitVec 32 := Scalar.muli v7 c1_i32_7654
  let v6143 : BitVec 32 := Scalar.addi c0_i32_7655 v6142
  v6143.toNat
def k0_dev211 (d0 : Dev nD) : Nat :=
  let c0_i32_7693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7692 : BitVec 32 := 1#32
  let v6175 : BitVec 32 := Scalar.muli v4 c1_i32_7692
  let v6176 : BitVec 32 := Scalar.addi c0_i32_7693 v6175
  v6176.toNat
def k0_dev212 (d0 : Dev nD) : Nat :=
  let c0_i32_7722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7721 : BitVec 32 := 1#32
  let v6199 : BitVec 32 := Scalar.muli v7 c1_i32_7721
  let v6200 : BitVec 32 := Scalar.addi c0_i32_7722 v6199
  v6200.toNat
def k0_dev213 (d0 : Dev nD) : Nat :=
  let c0_i32_7751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7750 : BitVec 32 := 1#32
  let v6223 : BitVec 32 := Scalar.muli v4 c1_i32_7750
  let v6224 : BitVec 32 := Scalar.addi c0_i32_7751 v6223
  v6224.toNat
def k0_dev214 (d0 : Dev nD) : Nat :=
  let c0_i32_7780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7779 : BitVec 32 := 1#32
  let v6247 : BitVec 32 := Scalar.muli v7 c1_i32_7779
  let v6248 : BitVec 32 := Scalar.addi c0_i32_7780 v6247
  v6248.toNat
def k0_dev215 (d0 : Dev nD) : Nat :=
  let c0_i32_7809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7808 : BitVec 32 := 1#32
  let v6271 : BitVec 32 := Scalar.muli v4 c1_i32_7808
  let v6272 : BitVec 32 := Scalar.addi c0_i32_7809 v6271
  v6272.toNat
def k0_dev216 (d0 : Dev nD) : Nat :=
  let c0_i32_7838 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7837 : BitVec 32 := 1#32
  let v6295 : BitVec 32 := Scalar.muli v7 c1_i32_7837
  let v6296 : BitVec 32 := Scalar.addi c0_i32_7838 v6295
  v6296.toNat
def k0_dev217 (d0 : Dev nD) : Nat :=
  let c0_i32_7867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7866 : BitVec 32 := 1#32
  let v6319 : BitVec 32 := Scalar.muli v4 c1_i32_7866
  let v6320 : BitVec 32 := Scalar.addi c0_i32_7867 v6319
  v6320.toNat
def k0_dev218 (d0 : Dev nD) : Nat :=
  let c0_i32_7896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7895 : BitVec 32 := 1#32
  let v6343 : BitVec 32 := Scalar.muli v7 c1_i32_7895
  let v6344 : BitVec 32 := Scalar.addi c0_i32_7896 v6343
  v6344.toNat
def k0_dev219 (d0 : Dev nD) : Nat :=
  let c0_i32_7934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7933 : BitVec 32 := 1#32
  let v6376 : BitVec 32 := Scalar.muli v4 c1_i32_7933
  let v6377 : BitVec 32 := Scalar.addi c0_i32_7934 v6376
  v6377.toNat
def k0_dev220 (d0 : Dev nD) : Nat :=
  let c0_i32_7963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7962 : BitVec 32 := 1#32
  let v6400 : BitVec 32 := Scalar.muli v7 c1_i32_7962
  let v6401 : BitVec 32 := Scalar.addi c0_i32_7963 v6400
  v6401.toNat
def k0_dev221 (d0 : Dev nD) : Nat :=
  let c0_i32_7992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7991 : BitVec 32 := 1#32
  let v6424 : BitVec 32 := Scalar.muli v4 c1_i32_7991
  let v6425 : BitVec 32 := Scalar.addi c0_i32_7992 v6424
  v6425.toNat
def k0_dev222 (d0 : Dev nD) : Nat :=
  let c0_i32_8021 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8020 : BitVec 32 := 1#32
  let v6448 : BitVec 32 := Scalar.muli v7 c1_i32_8020
  let v6449 : BitVec 32 := Scalar.addi c0_i32_8021 v6448
  v6449.toNat
def k0_dev223 (d0 : Dev nD) : Nat :=
  let c0_i32_8050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8049 : BitVec 32 := 1#32
  let v6472 : BitVec 32 := Scalar.muli v4 c1_i32_8049
  let v6473 : BitVec 32 := Scalar.addi c0_i32_8050 v6472
  v6473.toNat
def k0_dev224 (d0 : Dev nD) : Nat :=
  let c0_i32_8079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8078 : BitVec 32 := 1#32
  let v6496 : BitVec 32 := Scalar.muli v7 c1_i32_8078
  let v6497 : BitVec 32 := Scalar.addi c0_i32_8079 v6496
  v6497.toNat
def k0_dev225 (d0 : Dev nD) : Nat :=
  let c0_i32_8108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8107 : BitVec 32 := 1#32
  let v6520 : BitVec 32 := Scalar.muli v4 c1_i32_8107
  let v6521 : BitVec 32 := Scalar.addi c0_i32_8108 v6520
  v6521.toNat
def k0_dev226 (d0 : Dev nD) : Nat :=
  let c0_i32_8137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8136 : BitVec 32 := 1#32
  let v6544 : BitVec 32 := Scalar.muli v7 c1_i32_8136
  let v6545 : BitVec 32 := Scalar.addi c0_i32_8137 v6544
  v6545.toNat
def k0_dev227 (d0 : Dev nD) : Nat :=
  let c0_i32_8175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8174 : BitVec 32 := 1#32
  let v6577 : BitVec 32 := Scalar.muli v4 c1_i32_8174
  let v6578 : BitVec 32 := Scalar.addi c0_i32_8175 v6577
  v6578.toNat
def k0_dev228 (d0 : Dev nD) : Nat :=
  let c0_i32_8204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8203 : BitVec 32 := 1#32
  let v6601 : BitVec 32 := Scalar.muli v7 c1_i32_8203
  let v6602 : BitVec 32 := Scalar.addi c0_i32_8204 v6601
  v6602.toNat
def k0_dev229 (d0 : Dev nD) : Nat :=
  let c0_i32_8233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8232 : BitVec 32 := 1#32
  let v6625 : BitVec 32 := Scalar.muli v4 c1_i32_8232
  let v6626 : BitVec 32 := Scalar.addi c0_i32_8233 v6625
  v6626.toNat
def k0_dev230 (d0 : Dev nD) : Nat :=
  let c0_i32_8262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8261 : BitVec 32 := 1#32
  let v6649 : BitVec 32 := Scalar.muli v7 c1_i32_8261
  let v6650 : BitVec 32 := Scalar.addi c0_i32_8262 v6649
  v6650.toNat
def k0_dev231 (d0 : Dev nD) : Nat :=
  let c0_i32_8291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8290 : BitVec 32 := 1#32
  let v6673 : BitVec 32 := Scalar.muli v4 c1_i32_8290
  let v6674 : BitVec 32 := Scalar.addi c0_i32_8291 v6673
  v6674.toNat
def k0_dev232 (d0 : Dev nD) : Nat :=
  let c0_i32_8320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8319 : BitVec 32 := 1#32
  let v6697 : BitVec 32 := Scalar.muli v7 c1_i32_8319
  let v6698 : BitVec 32 := Scalar.addi c0_i32_8320 v6697
  v6698.toNat
def k0_dev233 (d0 : Dev nD) : Nat :=
  let c0_i32_8349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8348 : BitVec 32 := 1#32
  let v6721 : BitVec 32 := Scalar.muli v4 c1_i32_8348
  let v6722 : BitVec 32 := Scalar.addi c0_i32_8349 v6721
  v6722.toNat
def k0_dev234 (d0 : Dev nD) : Nat :=
  let c0_i32_8378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8377 : BitVec 32 := 1#32
  let v6745 : BitVec 32 := Scalar.muli v7 c1_i32_8377
  let v6746 : BitVec 32 := Scalar.addi c0_i32_8378 v6745
  v6746.toNat
def k0_dev235 (d0 : Dev nD) : Nat :=
  let c0_i32_8416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8415 : BitVec 32 := 1#32
  let v6778 : BitVec 32 := Scalar.muli v4 c1_i32_8415
  let v6779 : BitVec 32 := Scalar.addi c0_i32_8416 v6778
  v6779.toNat
def k0_dev236 (d0 : Dev nD) : Nat :=
  let c0_i32_8445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8444 : BitVec 32 := 1#32
  let v6802 : BitVec 32 := Scalar.muli v7 c1_i32_8444
  let v6803 : BitVec 32 := Scalar.addi c0_i32_8445 v6802
  v6803.toNat
def k0_dev237 (d0 : Dev nD) : Nat :=
  let c0_i32_8474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8473 : BitVec 32 := 1#32
  let v6826 : BitVec 32 := Scalar.muli v4 c1_i32_8473
  let v6827 : BitVec 32 := Scalar.addi c0_i32_8474 v6826
  v6827.toNat
def k0_dev238 (d0 : Dev nD) : Nat :=
  let c0_i32_8503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8502 : BitVec 32 := 1#32
  let v6850 : BitVec 32 := Scalar.muli v7 c1_i32_8502
  let v6851 : BitVec 32 := Scalar.addi c0_i32_8503 v6850
  v6851.toNat
def k0_dev239 (d0 : Dev nD) : Nat :=
  let c0_i32_8532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8531 : BitVec 32 := 1#32
  let v6874 : BitVec 32 := Scalar.muli v4 c1_i32_8531
  let v6875 : BitVec 32 := Scalar.addi c0_i32_8532 v6874
  v6875.toNat
def k0_dev240 (d0 : Dev nD) : Nat :=
  let c0_i32_8561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8560 : BitVec 32 := 1#32
  let v6898 : BitVec 32 := Scalar.muli v7 c1_i32_8560
  let v6899 : BitVec 32 := Scalar.addi c0_i32_8561 v6898
  v6899.toNat
def k0_dev241 (d0 : Dev nD) : Nat :=
  let c0_i32_8590 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8589 : BitVec 32 := 1#32
  let v6922 : BitVec 32 := Scalar.muli v4 c1_i32_8589
  let v6923 : BitVec 32 := Scalar.addi c0_i32_8590 v6922
  v6923.toNat
def k0_dev242 (d0 : Dev nD) : Nat :=
  let c0_i32_8619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8618 : BitVec 32 := 1#32
  let v6946 : BitVec 32 := Scalar.muli v7 c1_i32_8618
  let v6947 : BitVec 32 := Scalar.addi c0_i32_8619 v6946
  v6947.toNat
abbrev stage0_0 : Fin 1 → Memref sig .tc .vmem S32x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x128x1024 : Shape := ⟨3, ![512, 128, 1024]⟩
abbrev S16x32x128x1024 : Shape := ⟨4, ![16, 32, 128, 1024]⟩
abbrev S_ : Shape := ⟨0, ![]⟩
abbrev S32x128x1024 : Shape := ⟨3, ![32, 128, 1024]⟩

abbrev nBuf : Space → Nat
  | .hbm => 6
  | .vmem => 0
  | .smem => 0
  | _ => 0

abbrev bufTy : (tb : Table) → Fin (tcTables nBuf tb) → BufTy
  | .hbm, ⟨0, _⟩ => ⟨S512x128x1024, .bf16⟩
  | .hbm, ⟨1, _⟩ => ⟨S16x32x128x1024, .bf16⟩
  | .hbm, ⟨2, _⟩ => ⟨S16x32x128x1024, .f32⟩
  | .hbm, ⟨3, _⟩ => ⟨S_, .f32⟩
  | .hbm, ⟨4, _⟩ => ⟨S32x128x1024, .f32⟩
  | .hbm, ⟨5, _⟩ => ⟨S32x128x1024, .bf16⟩
  | _, _ => ⟨S512x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.KernelIdealHops.lean ====
module

public import proofs.«01_k».proof.Proof.Gen.KernelIdeal
public import Idealize.ShloMosaic.Lib.Tactic

@[expose] public section

noncomputable section

namespace Cert.KernelIdealRing

open Cert.KernelIdeal Cert.KernelIdeal.Gen
open Idealize.ShloMosaic Idealize.SL.Sem

variable {F : FTy → Type} [FloatOps F]

/-- The kernel's programs that return nothing. -/
abbrev PU (F : FTy → Type) : Type 1 := Prog (TpuEff nD τ sig (Elt F) Λ₀ .tc) PUnit

/-! ## The buffers -/

/-- The staged input. -/
abbrev xM : Memref sig .tc .vmem S32x128x1024 .bf16 := Memref.whole cc0_stg0_0
/-- The staged result. -/
abbrev oM : Memref sig .tc .vmem S32x128x1024 .bf16 := Memref.whole cc0_stg1_0
/-- The buffer that holds a device's own pieces for the first hop, in each direction, -/
abbrev sbM (d : Bool) : Memref sig .tc .vmem S128x1024 .bf16 := bif d then Memref.whole cc0_scratch1 else Memref.whole cc0_scratch0
/-- and the one the hops of the first half land in. -/
abbrev rbM (d : Bool) : Memref sig .tc .vmem S15x128x1024 .bf16 := bif d then Memref.whole cc0_scratch3 else Memref.whole cc0_scratch2

/-- A send buffer is a whole buffer. -/
theorem sbM_whole (d : Bool) : (sbM d).IsWhole := by cases d <;> exact Memref.isWhole_whole _
/-- A receive buffer is a whole buffer. -/
theorem rbM_whole (d : Bool) : (rbM d).IsWhole := by cases d <;> exact Memref.isWhole_whole _

/-! ## Rectangles -/

/-- The rows of a piece lie in the send buffer. -/
theorem sb_inb (k : Fin 4) : ∀ a, (![32 * k.val, 0] : Fin 2 → Nat) a + S32x1024.size a ≤ S128x1024.size a := by
  revert k; decide
/-- The rows of a piece of a hop lie in the receive buffer. -/
theorem rb_inb (s : Fin 15) (k : Fin 4) : ∀ a, (![s.val, 32 * k.val, 0] : Fin 3 → Nat) a + S1x32x1024.size a ≤ S15x128x1024.size a := by
  revert s k; decide
/-- The semaphore of a hop and a piece lies in the array of semaphores. -/
theorem sem_inb (s : Fin 15) (k : Fin 4) : ∀ a, (![s.val, k.val] : Fin 2 → Nat) a + S1x1.size a ≤ S15x4.size a := by
  revert s k; decide

/-- Piece `k` of the send buffer. -/
abbrev sbR (k : Fin 4) : Rect S128x1024 := Rect.unit (s := S128x1024) ![32 * k.val, 0] S32x1024.size (sb_inb k)
/-- Piece `k` of slot `s` of the receive buffer. -/
abbrev rbR (s : Fin 15) (k : Fin 4) : Rect S15x128x1024 := Rect.unit (s := S15x128x1024) ![s.val, 32 * k.val, 0] S1x32x1024.size (rb_inb s k)

/-- A piece of the send buffer is made of packed rows. -/
theorem sbR_packed (k : Fin 4) : (sbR k).PackedRows (EltTy.packing .bf16) := by revert k; decide +kernel
/-- A piece of the send buffer is made of whole words. -/
theorem sbR_words (k : Fin 4) : (sbR k).WholeWords (EltTy.packing .bf16) := by revert k; decide +kernel
/-- A piece of the receive buffer is made of packed rows. -/
theorem rbR_packed (s : Fin 15) (k : Fin 4) : (rbR s k).PackedRows (EltTy.packing .bf16) := by revert s k; decide +kernel
/-- A piece of the receive buffer is made of whole words. -/
theorem rbR_words (s : Fin 15) (k : Fin 4) : (rbR s k).WholeWords (EltTy.packing .bf16) := by revert s k; decide +kernel

/-- The offsets, as the kernel computes them, of the rows a device adds at hop `s` of the first half; -/
abbrev xOff (d : Bool) (k : Fin 4) : Dev nD → BitVec 32 → Fin 3 → Nat :=
  bif d then (![k0_off2, k0_off4, k0_off6, k0_off8] : Fin 4 → _) k else (![k0_off1, k0_off3, k0_off5, k0_off7] : Fin 4 → _) k
/-- of the rows it finishes; -/
abbrev fOff (d : Bool) (k : Fin 4) : Dev nD → Fin 3 → Nat :=
  bif d then (![k0_off11, k0_off15, k0_off19, k0_off23] : Fin 4 → _) k else (![k0_off9, k0_off13, k0_off17, k0_off21] : Fin 4 → _) k
/-- of the rows it passes on at hop `t` of the second half. -/
abbrev gOff (d : Bool) (k : Fin 4) : Dev nD → BitVec 32 → Fin 3 → Nat :=
  bif d then (![k0_off12, k0_off16, k0_off20, k0_off24] : Fin 4 → _) k else (![k0_off10, k0_off14, k0_off18, k0_off22] : Fin 4 → _) k

/-- The rows that a hop adds lie in the input. -/
theorem xOff_inb (d : Bool) (k : Fin 4) (c : Dev nD) (s : Fin 15) : ∀ a, xOff d k c (BitVec.ofNat 32 s.val) a + S1x32x1024.size a ≤ S32x128x1024.size a := by
  cases d <;> fin_cases k
  · exact k0_off1_inb c s
  · exact k0_off3_inb c s
  · exact k0_off5_inb c s
  · exact k0_off7_inb c s
  · exact k0_off2_inb c s
  · exact k0_off4_inb c s
  · exact k0_off6_inb c s
  · exact k0_off8_inb c s
/-- The rows that the last addition reads and writes lie in the array. -/
theorem fOff_inb (d : Bool) (k : Fin 4) (c : Dev nD) : ∀ a, fOff d k c a + S1x32x1024.size a ≤ S32x128x1024.size a := by
  cases d <;> fin_cases k
  · exact k0_off9_inb c
  · exact k0_off13_inb c
  · exact k0_off17_inb c
  · exact k0_off21_inb c
  · exact k0_off11_inb c
  · exact k0_off15_inb c
  · exact k0_off19_inb c
  · exact k0_off23_inb c
/-- The rows that a hop of the all-gather sends lie in the result. -/
theorem gOff_inb (d : Bool) (k : Fin 4) (c : Dev nD) (t : Fin 15) : ∀ a, gOff d k c (BitVec.ofNat 32 t.val) a + S1x32x1024.size a ≤ S32x128x1024.size a := by
  cases d <;> fin_cases k
  · exact k0_off10_inb c t
  · exact k0_off14_inb c t
  · exact k0_off18_inb c t
  · exact k0_off22_inb c t
  · exact k0_off12_inb c t
  · exact k0_off16_inb c t
  · exact k0_off20_inb c t
  · exact k0_off24_inb c t

/-- The rows of the input that hop `s` of the reduce-scatter adds. -/
abbrev xR (d : Bool) (k : Fin 4) (c : Dev nD) (s : Fin 15) : Rect S32x128x1024 :=
  Rect.unit (s := S32x128x1024) (xOff d k c (BitVec.ofNat 32 s.val)) S1x32x1024.size (xOff_inb d k c s)
/-- The rows that the last addition reads from the input and writes to the result. -/
abbrev fR (d : Bool) (k : Fin 4) (c : Dev nD) : Rect S32x128x1024 :=
  Rect.unit (s := S32x128x1024) (fOff d k c) S1x32x1024.size (fOff_inb d k c)
/-- The rows of the result that hop `t` of the all-gather sends. -/
abbrev gR (d : Bool) (k : Fin 4) (c : Dev nD) (t : Fin 15) : Rect S32x128x1024 :=
  Rect.unit (s := S32x128x1024) (gOff d k c (BitVec.ofNat 32 t.val)) S1x32x1024.size (gOff_inb d k c t)

/-- The rows of the last addition are packed rows. -/
theorem fR_packed (d : Bool) (k : Fin 4) (c : Dev nD) : (fR d k c).PackedRows (EltTy.packing .bf16) := by
  cases d <;> fin_cases k
  · exact k0_off9_packedbf16 c
  · exact k0_off13_packedbf16 c
  · exact k0_off17_packedbf16 c
  · exact k0_off21_packedbf16 c
  · exact k0_off11_packedbf16 c
  · exact k0_off15_packedbf16 c
  · exact k0_off19_packedbf16 c
  · exact k0_off23_packedbf16 c
/-- The rows that a hop of the all-gather sends are whole words. -/
theorem gR_words (d : Bool) (k : Fin 4) (c : Dev nD) (t : Fin 15) : (gR d k c t).WholeWords (EltTy.packing .bf16) := by
  cases d <;> fin_cases k
  · exact k0_off10_wordsbf16 c t
  · exact k0_off14_wordsbf16 c t
  · exact k0_off18_wordsbf16 c t
  · exact k0_off22_wordsbf16 c t
  · exact k0_off12_wordsbf16 c t
  · exact k0_off16_wordsbf16 c t
  · exact k0_off20_wordsbf16 c t
  · exact k0_off24_wordsbf16 c t

/-! ## The views the transfers read and write -/

/-- Piece `k` of the send buffer, as a copy's source. -/
abbrev sbV (d : Bool) (k : Fin 4) : Memref sig .tc .vmem S32x1024 .bf16 := (sbM d).slice (sbR k) (fun _ => rfl)
/-- Piece `k` of slot `s` of the receive buffer, as a copy's target and source. -/
abbrev rbV (d : Bool) (s : Fin 15) (k : Fin 4) : Memref sig .tc .vmem S32x1024 .bf16 :=
  ((rbM d).slice (rbR s k) (fun _ => rfl)).squeeze S32x1024 squeezes_S1x32x1024_S32x1024
/-- The rows of the result that hop `t` of the all-gather sends, as a copy's source and target. -/
abbrev obV (d : Bool) (k : Fin 4) (c : Dev nD) (t : Fin 15) : Memref sig .tc .vmem S32x1024 .bf16 :=
  (oM.slice (gR d k c t) (fun _ => rfl)).squeeze S32x1024 squeezes_S1x32x1024_S32x1024

/-- A copy may read a piece of the send buffer. -/
theorem sbV_words (d : Bool) (k : Fin 4) : (sbV d k).view.WordExact := (sbM_whole d).wordExact_slice rfl _ (sbR_words k)
/-- A copy may read and write a piece of the receive buffer. -/
theorem rbV_words (d : Bool) (s : Fin 15) (k : Fin 4) : (rbV d s k).view.WordExact := ((rbM_whole d).wordExact_slice rfl _ (rbR_words s k)).reshape _ _
/-- A copy may read and write a piece of the result. -/
theorem obV_words (d : Bool) (k : Fin 4) (c : Dev nD) (t : Fin 15) : (obV d k c t).view.WordExact :=
  ((Memref.isWhole_whole cc0_stg1_0).wordExact_slice rfl _ (gR_words d k c t)).reshape _ _

/-! ## The semaphores -/

/-- The semaphore of hop `s` and piece `k` in an array of semaphores. -/
abbrev at_ (S : DmaSems sig S15x4) (s : Fin 15) (k : Fin 4) : DmaSem sig :=
  ((S.slice (Rect.unit (s := S15x4) ![s.val, k.val] S1x1.size (sem_inb s k))).squeeze S_ squeezes_S1x1_S_).sem

/-- The semaphores of the reduce-scatter's sends. -/
abbrev rsS (d : Bool) : DmaSems sig S15x4 := bif d then cc0_scratch5 else cc0_scratch4
/-- The semaphores of the reduce-scatter's landings. -/
abbrev rsR (d : Bool) : DmaSems sig S15x4 := bif d then cc0_scratch7 else cc0_scratch6
/-- The semaphores of the all-gather's sends. -/
abbrev agS (d : Bool) : DmaSems sig S15x4 := bif d then cc0_scratch9 else cc0_scratch8
/-- The semaphores of the all-gather's landings. -/
abbrev agR (d : Bool) : DmaSems sig S15x4 := bif d then cc0_scratch11 else cc0_scratch10

/-! ## The operations -/

/-- The device a hop sends to, as the kernel computes it. -/
abbrev peer (d : Bool) (c : Dev nD) : Dev nD := bif d then ⟨k0_dev4 c, k0_dev4_lt c⟩ else ⟨k0_dev3 c, k0_dev3_lt c⟩

/-- Start a copy of `src` here to `dst` on device `n`. -/
abbrev startTo (n : Dev nD) (src dst : Memref sig .tc .vmem S32x1024 .bf16) (ss rs : DmaSem sig)
    (h1 : src.view.WordExact) (h2 : dst.view.WordExact) : PU F :=
  Prog.lift (.enqueueDma src (.remote (Dev.tc n) dst (.dma ss)) (.dma rs) h1 h2 ⟨⟨rfl, Or.inl rfl⟩, trivial⟩)

/-- Wait for a copy to complete on `s`. -/
abbrev await (s : DmaSem sig) (src dst : Memref sig .tc .vmem S32x1024 .bf16)
    (h1 : src.view.WordExact) (h2 : dst.view.WordExact) : PU F :=
  Prog.lift (.waitDma2 s src dst h1 h2)

/-- A load of rows of the input. -/
abbrev loadX (r : Rect S32x128x1024) (hr : 0 < r.shape.numel) : Prog (TpuEff nD τ sig (Elt F) Λ₀ .tc) (Vec F r.shape .bf16) :=
  Prog.lift (.load xM r.toLoadRect (View.loadsAt_vmem hr))

/-- The rows that the first hop puts in the send buffer. -/
abbrev payCast (x : Vec F S1x32x1024 .bf16) : FVec F S32x1024 .bf16 :=
  shapeCast S32x1024 (shapeCast S32x1024 x shapeCasts_S1x32x1024_S32x1024) shapeCasts_S32x1024_S32x1024
/-- The sum of the received rows and the device's own. -/
abbrev payAdd (r x : Vec F S1x32x1024 .bf16) : FVec F S1x32x1024 .bf16 :=
  shapeCast S1x32x1024 (addf (shapeCast S32x1024 r shapeCasts_S1x32x1024_S32x1024 : FVec F S32x1024 .bf16) (shapeCast S32x1024 x shapeCasts_S1x32x1024_S32x1024)) shapeCasts_S32x1024_S1x32x1024

/-- The source of hop `s` of the first half: the device's own pieces, then what the hop before landed. -/
abbrev srcV (d : Bool) (k : Fin 4) : (s : ℕ) → s < 15 → Memref sig .tc .vmem S32x1024 .bf16
  | 0, _ => sbV d k
  | s + 1, h => rbV d ⟨s, by omega⟩ k
/-- A copy may read the source of any hop of the reduce-scatter. -/
theorem srcV_words (d : Bool) (k : Fin 4) : (s : ℕ) → (h : s < 15) → (srcV d k s h).view.WordExact
  | 0, _ => sbV_words d k
  | _ + 1, _ => rbV_words d _ k

/-- The wait for the landing of hop `s` of the reduce-scatter. -/
abbrev recvRS (d : Bool) (k : Fin 4) (s : ℕ) (h : s < 15) : PU F :=
  await (at_ (rsR d) ⟨s, h⟩ k) (srcV d k s h) (rbV d ⟨s, h⟩ k) (srcV_words d k s h) (rbV_words d _ k)
/-- The wait for the send of hop `s` of the reduce-scatter. -/
abbrev sentRS (d : Bool) (k : Fin 4) (s : ℕ) (h : s < 15) : PU F :=
  await (at_ (rsS d) ⟨s, h⟩ k) (rbV d ⟨s, h⟩ k) (srcV d k s h) (rbV_words d _ k) (srcV_words d k s h)
/-- The start of the copy of hop `s` of the reduce-scatter. -/
abbrev startRS (c : Dev nD) (d : Bool) (k : Fin 4) (s : ℕ) (h : s < 15) : PU F :=
  startTo (peer d c) (srcV d k s h) (rbV d ⟨s, h⟩ k) (at_ (rsS d) ⟨s, h⟩ k) (at_ (rsR d) ⟨s, h⟩ k) (srcV_words d k s h) (rbV_words d _ k)
/-- The wait for the landing of hop `t` of the all-gather. -/
abbrev recvAG (c : Dev nD) (d : Bool) (k : Fin 4) (t : Fin 15) : PU F :=
  await (at_ (agR d) t k) (obV d k c t) (obV d k c t) (obV_words d k c t) (obV_words d k c t)
/-- The wait for the send of hop `t` of the all-gather. -/
abbrev sentAG (c : Dev nD) (d : Bool) (k : Fin 4) (t : Fin 15) : PU F :=
  await (at_ (agS d) t k) (obV d k c t) (obV d k c t) (obV_words d k c t) (obV_words d k c t)
/-- The start of the copy of hop `t` of the all-gather. -/
abbrev startAG (c : Dev nD) (d : Bool) (k : Fin 4) (t : Fin 15) : PU F :=
  startTo (peer d c) (obV d k c t) (obV d k c t) (at_ (agS d) t k) (at_ (agR d) t k) (obV_words d k c t) (obV_words d k c t)

/-- The store of the sum of what hop `s` landed and the device's own rows, in place. -/
abbrev addIn (c : Dev nD) (d : Bool) (k : Fin 4) (s : ℕ) (h : s + 1 < 15) : PU F := do
  let r : Vec F S1x32x1024 .bf16 ← Prog.lift (.load (rbM d) (rbR ⟨s, by omega⟩ k).toLoadRect (View.loadsAt_vmem h_S1x32x1024))
  let x : Vec F S1x32x1024 .bf16 ← Prog.lift (.load xM (xR d k c ⟨s + 1, h⟩).toLoadRect (View.loadsAt_vmem h_S1x32x1024))
  let _ : Vec F S1x32x1024 .bf16 ← Prog.lift (.load (rbM d) (rbR ⟨s, by omega⟩ k).toLoadRect (View.loadsAt_vmem h_S1x32x1024))
  Prog.lift (.store (rbM d) (rbR ⟨s, by omega⟩ k) (payAdd r x) Finset.univ
    (View.stores_vmem h_S1x32x1024 ((rbM_whole d).storeExact_slice rfl _ (rbR_packed _ k)) (fun _ => rfl)) (.inl rfl))

/-- Hop 0 of the first half. -/
def hop0 (c : Dev nD) (d : Bool) (k : Fin 4) : PU F := do
  let x : Vec F S1x32x1024 .bf16 ← Prog.lift (.load xM (xR d k c 0).toLoadRect (View.loadsAt_vmem h_S1x32x1024))
  let _ : Vec F S32x1024 .bf16 ← Prog.lift (.load (sbM d) (sbR k).toLoadRect (View.loadsAt_vmem h_S32x1024))
  Prog.lift (.store (sbM d) (sbR k) (payCast x) Finset.univ
    (View.stores_vmem h_S32x1024 ((sbM_whole d).storeExact_slice rfl _ (sbR_packed k)) (fun _ => rfl)) (.inl rfl))
  startRS c d k 0 (by decide)

/-- Hop 1. -/
def hop1 (c : Dev nD) (d : Bool) (k : Fin 4) : PU F := do
  recvRS d k 0 (by decide)
  addIn c d k 0 (by decide)
  startRS c d k 1 (by decide)

/-- Hop `s + 2`. -/
def hopRS (c : Dev nD) (s : ℕ) (h : s + 2 < 15) (d : Bool) (k : Fin 4) : PU F := do
  recvRS d k (s + 1) (by omega)
  sentRS d k s (by omega)
  addIn c d k (s + 1) (by omega)
  startRS c d k (s + 2) h

/-- Hop 0 of the second half: the rows this device finishes. -/
def hopFin (c : Dev nD) (d : Bool) (k : Fin 4) : PU F := do
  recvRS d k 14 (by decide)
  sentRS d k 13 (by decide)
  let r : Vec F S1x32x1024 .bf16 ← Prog.lift (.load (rbM d) (rbR 14 k).toLoadRect (View.loadsAt_vmem h_S1x32x1024))
  let x : Vec F S1x32x1024 .bf16 ← Prog.lift (.load xM (fR d k c).toLoadRect (View.loadsAt_vmem h_S1x32x1024))
  let _ : Vec F S1x32x1024 .bf16 ← Prog.lift (.load oM (fR d k c).toLoadRect (View.loadsAt_vmem h_S1x32x1024))
  Prog.lift (.store oM (fR d k c) (payAdd r x) Finset.univ
    (View.stores_vmem h_S1x32x1024 ((Memref.isWhole_whole cc0_stg1_0).storeExact_slice rfl _ (fR_packed d k c)) (fun _ => rfl)) (.inl rfl))
  startAG c d k 0

/-- Hop 1 of the second half. -/
def hopAG1 (c : Dev nD) (d : Bool) (k : Fin 4) : PU F := do
  recvAG c d k 0
  sentRS d k 14 (by decide)
  startAG c d k 1

/-- Hop `t + 2` of the second half. -/
def hopAG (c : Dev nD) (t : ℕ) (h : t + 2 < 15) (d : Bool) (k : Fin 4) : PU F := do
  recvAG c d k ⟨t + 1, by omega⟩
  sentAG c d k ⟨t, by omega⟩
  startAG c d k ⟨t + 2, h⟩

/-- The last waits. -/
def drain (c : Dev nD) (d : Bool) (k : Fin 4) : PU F := do
  recvAG c d k 14
  sentAG c d k 13
  sentAG c d k 14

/-- One round of all pieces, in the kernel's order. -/
def eight (f : Bool → Fin 4 → PU F) : PU F := do
  f false 0; f true 0; f false 1; f true 1; f false 2; f true 2; f false 3; f true 3

/-- Hops `s + 2` and on of the reduce-scatter, `n` of them. -/
def loopRS (c : Dev nD) : (n s : ℕ) → s + n = 13 → PU F
  | 0, _, _ => pure ⟨⟩
  | n + 1, s, h => do eight (hopRS c s (by omega)); loopRS c n (s + 1) (by omega)

/-- Hops `t + 2` and on of the all-gather, `n` of them. -/
def loopAG (c : Dev nD) : (n t : ℕ) → t + n = 13 → PU F
  | 0, _, _ => pure ⟨⟩
  | n + 1, t, h => do eight (hopAG c t (by omega)); loopAG c n (t + 1) (by omega)

/-- The barrier semaphore. -/
abbrev barS : Sem sig := (SemArray.scalar (sig.barrier 0 rfl) : Sems sig S_).sem

/-- The kernel, hop by hop, on device `c` past its entry. -/
def hops (c : Dev nD) : PU F := do
  eight (hop0 c)
  eight (hop1 c)
  loopRS c 13 0 rfl
  eight (hopFin c)
  eight (hopAG1 c)
  loopAG c 13 0 rfl
  drain c false 0; drain c false 1; drain c false 2; drain c false 3
  drain c true 0; drain c true 1; drain c true 2; drain c true 3

/-- The whole body: the handshake, the two loops and the last waits. -/
def whole : PU F := do
  let c : Dev nD ← Prog.lift .deviceId
  semSignalWord (⟨k0_dev1 c, k0_dev1_lt c⟩ : Dev nD) barS 1#32
  semSignalWord (⟨k0_dev2 c, k0_dev2_lt c⟩ : Dev nD) barS 1#32
  semWaitWord barS 2#32
  hops c

/-- The kernel at its buffers. -/
abbrev bodyK : PU F :=
  cc0_body xM (Memref.isWhole_whole _) oM (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 cc0_scratch8 cc0_scratch9 cc0_scratch10 cc0_scratch11

set_option maxRecDepth 100000 in
set_option maxHeartbeats 0 in
/-- The printed body is the body written as loops. -/
theorem body_eq : (bodyK : PU F) = whole := by
  sl_kernel_rfl

end Cert.KernelIdealRing
end
-- ==== Proof.KernelIdealSched.lean ====
module

public import proofs.«01_k».proof.Proof.KernelIdealHops
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdealRing

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the staging pipeline's copy and the ring's -/

/-- The ghost state of the ring's cells. -/
abbrev UB : Type := URounds (GSem nD τ sig) Bool
/-- The ghost state of the staging copies and of the ring. -/
abbrev UU : Type := UR sig nD τ × UB

local notation "𝕄" => MT nD τ sig Unit (Elt F) ℕ UU ℕ

/-- The staging copies' part. -/
abbrev EP : Emb (UR sig nD τ) (MT nD τ sig Unit (Elt F) ℕ UU ℕ) := embL
/-- The ring's part. -/
abbrev ER : Emb UB (MT nD τ sig Unit (Elt F) ℕ UU ℕ) := embR

/-! ## The ring -/

set_option backward.proofsInPublic true in
/-- The device a lane of direction `d` sends to: the one after for `false`, the one before for `true`. -/
def toD (d : Bool) (c : Dev nD) : Dev nD :=
  bif d then ⟨(c.val + 15) % 16, Nat.mod_lt _ (by decide)⟩ else ⟨(c.val + 1) % 16, Nat.mod_lt _ (by decide)⟩
/-- The device such a lane hears from. -/
abbrev frD (d : Bool) (c : Dev nD) : Dev nD := toD (!d) c

/-- The receiver of one's sender is oneself. -/
theorem to_fr (d : Bool) (c : Dev nD) : toD d (frD d c) = c := by revert d c; decide
/-- The sender of one's receiver is oneself. -/
theorem fr_to (d : Bool) (c : Dev nD) : frD d (toD d c) = c := by revert d c; decide

/-- The ring as a permutation of the devices. -/
def ring (d : Bool) : Dev nD ≃ Dev nD := ⟨toD d, frD d, fr_to d, to_fr d⟩

/-- The printed target of a copy is the neighbour. -/
theorem peer_eq (d : Bool) (c : Dev nD) : peer d c = toD d c := by
  cases d
  · exact Fin.ext (k0_dev3_eq c)
  · exact Fin.ext (k0_dev4_eq c)
/-- The printed target of the first signal is the left neighbour. -/
theorem dev1_eq (c : Dev nD) : (⟨k0_dev1 c, k0_dev1_lt c⟩ : Dev nD) = toD true c := Fin.ext (k0_dev1_eq c)
/-- The printed target of the second signal is the right neighbour. -/
theorem dev2_eq (c : Dev nD) : (⟨k0_dev2 c, k0_dev2_lt c⟩ : Dev nD) = toD false c := Fin.ext (k0_dev2_eq c)

/-! ## Which rows the offsets name -/

/-- The block of `x` a device adds at hop `s` of the first half. -/
def xCh (d : Bool) (c : Dev nD) (s : Fin 15) : ℕ := bif d then (c.val + s.val) % 16 + 16 else (c.val + 32 - s.val) % 16
/-- The block of the result a device passes on at hop `t` of the second half. -/
def gCh (d : Bool) (c : Dev nD) (t : Fin 15) : ℕ := bif d then (c.val + 15 + t.val) % 16 + 16 else (c.val + 33 - t.val) % 16

/-- The offset of the rows that a hop adds. -/
theorem xOff_eq (d : Bool) (k : Fin 4) (c : Dev nD) (s : Fin 15) : xOff d k c (BitVec.ofNat 32 s.val) = ![xCh d c s, 32 * k.val, 0] := by
  cases d <;> fin_cases k
  · exact k0_off1_eq c s
  · exact k0_off3_eq c s
  · exact k0_off5_eq c s
  · exact k0_off7_eq c s
  · exact k0_off2_eq c s
  · exact k0_off4_eq c s
  · exact k0_off6_eq c s
  · exact k0_off8_eq c s

set_option maxRecDepth 4000 in
/-- The offset of the rows that a hop of the all-gather sends. -/
theorem gOff_eq (d : Bool) (k : Fin 4) (c : Dev nD) (t : Fin 15) : gOff d k c (BitVec.ofNat 32 t.val) = ![gCh d c t, 32 * k.val, 0] := by
  revert d k c t; decide +kernel

/-- The offset of the rows of the last addition. -/
theorem fOff_eq (d : Bool) (k : Fin 4) (c : Dev nD) : fOff d k c = ![gCh d c 0, 32 * k.val, 0] := by
  revert d k c; decide +kernel

/-- It is the offset of the all-gather's first hop. -/
theorem fOff_gOff (d : Bool) (k : Fin 4) (c : Dev nD) : fOff d k c = gOff d k c 0#32 :=
  (fOff_eq d k c).trans (gOff_eq d k c 0).symm

/-- The rows passed on at a hop of the second half are those the sender passed on at the hop before. -/
theorem gCh_succ (d : Bool) (c : Dev nD) (t : ℕ) (h : t + 1 < 15) : gCh d c ⟨t + 1, h⟩ = gCh d (frD d c) ⟨t, by omega⟩ := by
  have hc := c.isLt
  cases d <;> simp only [gCh, frD, toD, cond_true, cond_false, Bool.not_true, Bool.not_false] <;> omega

/-- Pieces of the result at equal offsets are equal. -/
theorem ob_congr {off off' : Fin 3 → ℕ} (e : off = off') (h : ∀ a, off a + S1x32x1024.size a ≤ S32x128x1024.size a)
    (h' : ∀ a, off' a + S1x32x1024.size a ≤ S32x128x1024.size a) :
    ((oM.slice (Rect.unit (s := S32x128x1024) off S1x32x1024.size h) (fun _ => rfl)).squeeze S32x1024 squeezes_S1x32x1024_S32x1024
      : Memref sig .tc .vmem S32x1024 .bf16)
      = (oM.slice (Rect.unit (s := S32x128x1024) off' S1x32x1024.size h') (fun _ => rfl)).squeeze S32x1024 squeezes_S1x32x1024_S32x1024 := by
  subst e; rfl

/-- The rows that a hop sends are those that the hop before brought. -/
theorem obV_succ (d : Bool) (k : Fin 4) (c : Dev nD) (t : ℕ) (h : t + 1 < 15) :
    obV d k c ⟨t + 1, h⟩ = obV d k (frD d c) ⟨t, by omega⟩ :=
  ob_congr ((gOff_eq d k c ⟨t + 1, h⟩).trans (by rw [gCh_succ]; exact (gOff_eq d k (frD d c) ⟨t, by omega⟩).symm)) _ _

/-! ## The cells -/

/-- A transfer of the kernel on one device: its hop (the first half's fifteen, then the second half's), its direction and
    its piece. -/
abbrev Slot : Type := Fin 30 × Bool × Fin 4

/-- The semaphore a transfer credits when its source is read, or (`true`) when it has landed. -/
def slotSem (b : Bool) (s : Slot) : DmaSem sig :=
  if h : s.1.val < 15 then at_ (bif b then rsR s.2.1 else rsS s.2.1) ⟨s.1.val, h⟩ s.2.2
  else at_ (bif b then agR s.2.1 else agS s.2.1) ⟨s.1.val - 15, by omega⟩ s.2.2

/-- The transfer a semaphore serves. -/
def unSem (q : DmaSem sig) : Bool × Slot :=
  let n := q.val - 2
  (decide (n / 60 / 2 % 2 = 1),
    ⟨⟨(n % 60) / 4 + (if n / 60 < 4 then 0 else 15), by have : n % 60 < 60 := Nat.mod_lt _ (by decide); split <;> omega⟩,
      decide (n / 60 % 2 = 1), ⟨n % 4, Nat.mod_lt _ (by decide)⟩⟩)

/-- The number of a transfer's semaphore. -/
theorem slotSem_val (b : Bool) (s : Slot) : (slotSem b s).val
    = 2 + 60 * ((if s.1.val < 15 then 0 else 4) + (bif b then 2 else 0) + (bif s.2.1 then 1 else 0)) + 4 * (s.1.val % 15) + s.2.2.val := by
  revert b s; decide +kernel

/-- The transfer of a transfer's semaphore. -/
theorem unSem_slotSem (b : Bool) (s : Slot) : unSem (slotSem b s) = (b, s) := by
  revert b s; decide +kernel

/-- A transfer's semaphore is none of the staging copies'. -/
theorem slotSem_ge (b : Bool) (s : Slot) : 2 ≤ (slotSem b s).val := by rw [slotSem_val]; omega

/-- Transfers have different semaphores. -/
theorem slotSem_inj {b b' : Bool} {s s' : Slot} (h : slotSem b s = slotSem b' s') : b = b' ∧ s = s' := by
  have := congrArg unSem h; rw [unSem_slotSem, unSem_slotSem] at this; exact Prod.mk.inj this

/-- A device's barrier cell. -/
abbrev barCell (c : Dev nD) : GSem nD τ sig := ((c : Thread nD τ), .reg barS)
/-- The cell of a transfer's send, at the sender. -/
abbrev sCell (c : Dev nD) (s : Slot) : GSem nD τ sig := ((c : Thread nD τ), .dma (slotSem false s))
/-- The cell of a transfer's landing, at the receiver. -/
abbrev rCell (c : Dev nD) (s : Slot) : GSem nD τ sig := ((c : Thread nD τ), .dma (slotSem true s))

/-- What a transfer credits. -/
abbrev N : ℕ := (sbV false 0).view.dmaCredit
/-- A piece has a positive amount. -/
theorem N_pos : 0 < N := View.dmaCredit_pos _ (by decide)

/-! ## The views a transfer reads and writes -/

/-- The view the transfer of hop `h` reads on the sender `c`; -/
def srcH (c : Dev nD) (s : Slot) : Memref sig .tc .vmem S32x1024 .bf16 :=
  if h : s.1.val < 15 then srcV s.2.1 s.2.2 s.1.val h else obV s.2.1 s.2.2 c ⟨s.1.val - 15, by omega⟩
/-- and the view it writes on the receiver, `c` the sender. -/
def dstH (c : Dev nD) (s : Slot) : Memref sig .tc .vmem S32x1024 .bf16 :=
  if h : s.1.val < 15 then rbV s.2.1 ⟨s.1.val, h⟩ s.2.2 else obV s.2.1 s.2.2 c ⟨s.1.val - 15, by omega⟩

/-! ## Contents -/

/-- A piece flattened to rows. -/
abbrev flat (x : Vec F S1x32x1024 .bf16) : FVec F S32x1024 .bf16 := shapeCast S32x1024 x shapeCasts_S1x32x1024_S32x1024

/-- The devices' input blocks as they are staged. -/
abbrev Xs (F : FTy → Type) : Type := Dev nD → (cc0_stg0_0 : Ref sig .tc).ty.Contents (Elt F)

variable (X : Xs F)

/-- The rows device `c` adds at hop `s` of the first half; -/
def xrow (d : Bool) (k : Fin 4) (s : Fin 15) (c : Dev nD) : FVec F S32x1024 .bf16 :=
  flat (xM.view.readAt (Elt F) (xR d k c s).toLoadRect (X c))
/-- and when it finishes its own rows. -/
def frow (d : Bool) (k : Fin 4) (c : Dev nD) : FVec F S32x1024 .bf16 :=
  flat (xM.view.readAt (Elt F) (fR d k c).toLoadRect (X c))

/-- What the transfer of hop `h` from device `c` carries: its own rows at hop 0, then what it received plus its own rows
    up to the end of the first half, then what it received. -/
def val (d : Bool) (k : Fin 4) : ℕ → Dev nD → FVec F S32x1024 .bf16
  | 0, c => xrow X d k 0 c
  | h + 1, c => if hh : h + 1 < 15 then addf (val d k h (frD d c)) (xrow X d k ⟨h + 1, hh⟩ c)
      else if h + 1 = 15 then addf (val d k h (frD d c)) (frow X d k c) else val d k h (frD d c)

/-- What a device receives or sends in a transfer. -/
abbrev valS (c : Dev nD) (s : Slot) : FVec F S32x1024 .bf16 := val X s.2.1 s.2.2 s.1.val c

/-- A view of device `c`'s memory held, reading `w`. -/
def held (v : Memref sig .tc .vmem S32x1024 .bf16) (c : Dev nD) (w : Vec F S32x1024 .bf16) : sProp 𝕄 :=
  iprop(∃ f : Buf (Elt F) (v.view.loc (c : Thread nD τ)), ⌜v.view.read (Elt F) f = w⌝ ∗ (v.view.loc (c : Thread nD τ) ↦[v.view.set]{fullShare} f))
/-- A view of device `c`'s memory held, reading anything. -/
def own1 (v : Memref sig .tc .vmem S32x1024 .bf16) (c : Dev nD) : sProp 𝕄 := iprop(∃ w, held (F := F) v c w)

/-- A piece with known contents may be handed over. -/
instance held_storable (v : Memref sig .tc .vmem S32x1024 .bf16) (c : Dev nD) (w : Vec F S32x1024 .bf16) :
    BI.Storable (upEmb : UEmb _ 𝕄) (held v c w) := by unfold held; infer_instance
/-- A piece may be handed over. -/
instance own1_storable (v : Memref sig .tc .vmem S32x1024 .bf16) (c : Dev nD) :
    BI.Storable (upEmb : UEmb _ 𝕄) (own1 (F := F) v c) := by unfold own1; infer_instance

/-! ## The schedule -/

/-- What the entry signal of duty `d` hands device `c`: every view on `toD d c` that the lanes of direction `d` of `c` will
    write there. -/
def barPay (d : Bool) (c : Dev nD) : sProp 𝕄 :=
  bigSep Finset.univ fun hk : Fin 30 × Fin 4 => own1 (F := F) (dstH c (hk.1, d, hk.2)) (toD d c)

/-- What the credit of a transfer hands the owner of the cell: the source back, or the view that was written. -/
def dmaPay (c : Dev nD) (b : Bool) (s : Slot) : sProp 𝕄 :=
  bif b then held (dstH (frD s.2.1 c) s) c (valS X (frD s.2.1 c) s) else held (srcH c s) c (valS X c s)

/-- What a payment on a cell hands over. -/
def pay (g : GSem nD τ sig) (d : Bool) : sProp 𝕄 :=
  match g.2 with
  | .reg _ => barPay d g.1.1
  | .dma q => dmaPay X g.1.1 (unSem q).1 (unSem q).2

/-- A signal's payload may be handed over. -/
instance barPay_storable (d : Bool) (c : Dev nD) : BI.Storable (upEmb : UEmb _ 𝕄) (barPay (F := F) d c) := by
  unfold barPay; infer_instance
/-- A copy's payload may be handed over. -/
instance dmaPay_storable (c : Dev nD) (b : Bool) (s : Slot) : BI.Storable (upEmb : UEmb _ 𝕄) (dmaPay X c b s) := by
  unfold dmaPay; cases b <;> (dsimp only [cond_true, cond_false]; infer_instance)

/-- The payments on a cell. -/
def dut (g : GSem nD τ sig) : Finset Bool :=
  match g.2 with
  | .reg s => if s = barS then Finset.univ else ∅
  | .dma q => if 2 ≤ q.val then {true} else ∅

/-- The amount of a payment on a cell. -/
def amt (g : GSem nD τ sig) : ℕ := match g.2 with | .reg _ => 1 | .dma _ => N

/-- One round: the entry signals' cells take a unit from each neighbour, the transfers' cells one transfer's credit. -/
def rd : Rounds.Schedule (GSem nD τ sig) Bool 𝕄 where
  duties g r := if r = 0 then dut g else ∅
  unitless _ := False
  amount g _ _ := amt g
  payload g _ d := pay X g d
  amount_pos g _ _ _ := by
    unfold amt; split
    · exact Nat.one_pos
    · exact N_pos

/-- Every payload of the schedule may be handed over. -/
instance rd_payload_storable (g : GSem nD τ sig) (r : ℕ) (d : Bool) : BI.Storable (upEmb : UEmb _ 𝕄) ((rd X).payload g r d) := by
  show BI.Storable _ (pay X g d)
  unfold pay; split <;> infer_instance

/-- After the first round there are no payments. -/
theorem duties_later (g : GSem nD τ sig) : ∀ r, 1 ≤ r → (rd X).duties g r = ∅ := fun r hr => if_neg (by omega)
/-- A barrier cell is paid by both neighbours. -/
theorem duties_bar (c : Dev nD) : (rd X).duties (barCell c) 0 = Finset.univ := rfl
/-- A transfer's cell is paid once. -/
theorem duties_dma (c : Dev nD) (b : Bool) (s : Slot) : (rd X).duties ((c : Thread nD τ), .dma (slotSem b s)) 0 = {true} :=
  if_pos (slotSem_ge b s)
/-- A transfer's cell is paid the amount of one piece. -/
theorem amount_dma (c : Dev nD) (b : Bool) (s : Slot) (u : Bool) : (rd X).amount ((c : Thread nD τ), .dma (slotSem b s)) 0 u = N := rfl
/-- The payload of a transfer's cell. -/
theorem payload_dma (c : Dev nD) (b : Bool) (s : Slot) (u : Bool) :
    (rd X).payload ((c : Thread nD τ), .dma (slotSem b s)) 0 u = dmaPay X c b s := by
  show dmaPay X c (unSem (slotSem b s)).1 (unSem (slotSem b s)).2 = _
  rw [unSem_slotSem]
/-- The payload of a barrier cell. -/
theorem payload_bar (c : Dev nD) (d : Bool) : (rd X).payload (barCell c) 0 d = barPay d c := rfl

/-- A barrier cell expects two units. -/
theorem expect_bar (c : Dev nD) : (rd X).expect (barCell c) 0 = 2 := by
  unfold Schedule.expect Schedule.amountOf; rw [duties_bar]; rfl
/-- A transfer's cell expects the amount of one piece. -/
theorem expect_dma (c : Dev nD) (b : Bool) (s : Slot) : (rd X).expect ((c : Thread nD τ), .dma (slotSem b s)) 0 = N := by
  unfold Schedule.expect Schedule.amountOf; rw [duties_dma, Finset.sum_singleton, amount_dma]

/-- What a wait on a transfer's cell takes out. -/
theorem rest_dma (c : Dev nD) (b : Bool) (s : Slot) :
    bigSep ((rd X).duties ((c : Thread nD τ), .dma (slotSem b s)) 0 \ ∅) (fun u => (rd X).payload ((c : Thread nD τ), .dma (slotSem b s)) 0 u)
      = dmaPay X c b s := by
  rw [Finset.sdiff_empty, duties_dma, bigSep_singleton, payload_dma]

/-! ## What a device owes, and the levels -/

/-- The `i`-th transfer a device starts. -/
def slotAt (i : ℕ) (h : i < 240) : Slot := (⟨i / 8, by omega⟩, decide (i % 2 = 1), ⟨i % 8 / 2, by omega⟩)

/-- The credit the `i`-th transfer of device `c` gives. -/
def owe1 (c : Dev nD) (i : ℕ) : CellTallies nD τ sig Unit :=
  if h : i < 240 then tallyAt (rCell (toD (slotAt i h).2.1 c) (slotAt i h)) () N else 0

/-- What device `c` owes with `n` transfers started. -/
def oweN (c : Dev nD) (n : ℕ) : CellTallies nD τ sig Unit := ∑ i ∈ Finset.Ico n 240, owe1 c i

/-- Starting the transfer at place `n` pays what is owed for it. -/
theorem oweN_step (c : Dev nD) (n : ℕ) (h : n < 240) :
    oweN c n = oweN c (n + 1) + tallyAt (rCell (toD (slotAt n h).2.1 c) (slotAt n h)) () N := by
  have e : Finset.Ico n 240 = insert n (Finset.Ico (n + 1) 240) := by
    ext i; simp only [Finset.mem_insert, Finset.mem_Ico]; omega
  unfold oweN
  rw [e, Finset.sum_insert (by simp only [Finset.mem_Ico]; omega), add_comm]
  congr 1
  exact dif_pos h

/-- After the last transfer nothing is owed. -/
theorem oweN_end (c : Dev nD) : oweN c 240 = 0 := by unfold oweN; rw [Finset.Ico_self]; rfl

/-- A positive sum of tallies has a positive member. -/
theorem sum_pos_iff_of {ι : Type} (s : Finset ι) (f : ι → CellTallies nD τ sig Unit) (g : GSem nD τ sig) (u : Unit)
    (h : 0 < (∑ i ∈ s, f i) g u) : ∃ i ∈ s, 0 < f i g u := by
  by_contra hn
  push Not at hn
  rw [Finset.sum_apply, Finsupp.finset_sum_apply] at h
  exact absurd h (by rw [Finset.sum_eq_zero fun i hi => Nat.le_zero.mp (hn i hi)]; exact Nat.lt_irrefl 0)

/-- Whatever is still owed is owed to the landing cell of a transfer not yet started. -/
theorem oweN_pos {c : Dev nD} {n : ℕ} {g : GSem nD τ sig} {u : Unit} (h : 0 < oweN c n g u) :
    ∃ (i : ℕ) (hi : i < 240), n ≤ i ∧ g = rCell (toD (slotAt i hi).2.1 c) (slotAt i hi) := by
  obtain ⟨i, hi, hp⟩ := sum_pos_iff_of _ _ g u h
  obtain ⟨h1, h2⟩ := Finset.mem_Ico.mp hi
  refine ⟨i, h2, h1, ?_⟩
  unfold owe1 at hp
  rw [dif_pos h2, tallyAt_apply] at hp
  by_contra hg
  rw [if_neg fun hh => hg hh.1] at hp
  exact absurd hp (Nat.lt_irrefl 0)

/-- All that device `c` owes at launch: its transfers' credits and a unit to each neighbour. -/
def O₀ (c : Dev nD) : CellTallies nD τ sig Unit :=
  (oweN c 0 + tallyAt (barCell (toD false c)) () 1) + tallyAt (barCell (toD true c)) () 1

/-- The cells that have a level. -/
def L (g : GSem nD τ sig) : Finset Unit := if g.1.2 = .tc then {()} else ∅
/-- The entry signals' cells are at level 1, the cell a transfer of hop `h` lands on at `2 + h`, the others at 0. -/
def lv (g : GSem nD τ sig) (_ : Unit) : ℕ :=
  match g.2 with
  | .reg _ => 1
  | .dma q => if 2 ≤ q.val then (if (unSem q).1 then 2 + (unSem q).2.1.val else 0) else 0

/-- No other processor's cell has one. -/
theorem L_of_ne (g : GSem nD τ sig) (h : g.1.2 ≠ .tc) : L g = ∅ := if_neg h
/-- Every cell of the main processor has one. -/
theorem L_tc (c : Dev nD) (sm : SemLoc sig) : L ((c : Thread nD τ), sm) = {()} := if_pos rfl
/-- The level of a landing cell. -/
theorem lv_r (c : Dev nD) (s : Slot) (u : Unit) : lv (rCell c s) u = 2 + s.1.val := by
  show (if 2 ≤ (slotSem true s).val then _ else 0) = _
  rw [if_pos (slotSem_ge true s), unSem_slotSem]; rfl
/-- The level of a send cell. -/
theorem lv_s (c : Dev nD) (s : Slot) (u : Unit) : lv (sCell c s) u = 0 := by
  show (if 2 ≤ (slotSem false s).val then _ else 0) = _
  rw [if_pos (slotSem_ge false s), unSem_slotSem]; rfl
/-- The level of a barrier cell. -/
theorem lv_bar (c : Dev nD) (u : Unit) : lv (barCell c) u = 1 := rfl

/-- A wait on a cell below every cell of the transfers still owed is allowed. -/
theorem mayWait_owe (c : Dev nD) (sm : SemLoc sig) (n b : ℕ) (hl : lv ((c : Thread nD τ), sm) () ≤ b) (hb : b < 2 + n / 8) :
    (levAts L lv : sProp 𝕄) ⊢ MayWait (c : Thread nD τ) sm () (oweN c n) :=
  MayOwe.of_cut (L := L) (lev := lv) b (fun p hp => by rw [Finset.mem_singleton.mp hp, L_tc]; exact Finset.mem_singleton_self _)
    (fun g u hg => by obtain ⟨i, hi, hn, rfl⟩ := oweN_pos hg; rw [L_tc]; exact Finset.mem_singleton_self _)
    (fun p hp => by rw [Finset.mem_singleton.mp hp]; exact hl)
    (fun g u hg => by
      obtain ⟨i, hi, hn, rfl⟩ := oweN_pos hg
      rw [lv_r]
      have : n / 8 ≤ i / 8 := Nat.div_le_div_right hn
      exact lt_of_lt_of_le hb (Nat.add_le_add_left this 2))

end Cert.KernelIdealRing
end
-- ==== Proof.KernelIdealSteps.lean ====
module

public import proofs.«01_k».proof.Proof.KernelIdealSched

@[expose] public section

noncomputable section

namespace Cert.KernelIdealRing

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel makes no calls. -/
abbrev 𝒱₀ : Variants := Variants.none

variable (X : Xs F)

/-! ## The cells' records -/

/-- A device's cells: the entry signals' one, and one for each side of each transfer. -/
abbrev CI : Type := Option (Bool × Slot)

/-- The cell that a number stands for. -/
def kcell (ck : Dev nD × CI) : GSem nD τ sig :=
  match ck.2 with
  | none => barCell ck.1
  | some bs => ((ck.1 : Thread nD τ), .dma (slotSem bs.1 bs.2))

variable (K : Dev nD × CI → ℕ)

/-- The cells' levels. -/
def levs : sProp 𝕄 := levAts L lv
/-- The levels can be used any number of times. -/
instance levs_persistent : BI.Persistent (levs (F := F)) := by unfold levs; infer_instance

/-- What every device knows throughout: each cell's invariant, that its round is reached, and the levels. -/
def ctx : sProp 𝕄 :=
  iprop((bigSep Finset.univ fun ck => cellInv ER (rd X) (K ck) (kcell ck)) ∗ (bigSep Finset.univ fun ck => reached ER (kcell ck) 0) ∗ levs (F := F))

/-- The protocol's facts can be used any number of times. -/
instance ctx_persistent : BI.Persistent (ctx X K) := by unfold ctx; infer_instance

/-- The invariant of one cell, from those of all. -/
theorem inv_at (ck : Dev nD × CI) :
    (bigSep Finset.univ fun ck => cellInv ER (rd X) (K ck) (kcell ck) : sProp 𝕄) ⊢ cellInv ER (rd X) (K ck) (kcell ck) :=
  bigSep_elim (Finset.mem_univ ck)
/-- The first round of one cell, from those of all. -/
theorem reached_at (ck : Dev nD × CI) : (bigSep Finset.univ fun ck => reached ER (kcell ck) 0 : sProp 𝕄) ⊢ reached ER (kcell ck) 0 :=
  bigSep_elim (Finset.mem_univ ck)
/-- The protocol's facts have the invariant of every cell. -/
theorem ctx_inv (ck : Dev nD × CI) : ctx X K ⊢ cellInv ER (rd X) (K ck) (kcell ck) := by
  unfold ctx; iintro ⟨#H, -, -⟩; iapply (inv_at X K ck); iexact H
/-- The protocol's facts have the first round of every cell. -/
theorem ctx_reached (ck : Dev nD × CI) : ctx X K ⊢ reached ER (kcell ck) 0 := by
  unfold ctx; iintro ⟨-, #H, -⟩; iapply (reached_at ck); iexact H
/-- A wait is allowed on a cell below every landing that is still owed. -/
theorem ctx_mayWait (c : Dev nD) (sm : SemLoc sig) (n b : ℕ) (hl : lv ((c : Thread nD τ), sm) () ≤ b) (hb : b < 2 + n / 8) :
    ctx X K ⊢ MayWait (c : Thread nD τ) sm () (oweN c n) := by
  have h := mayWait_owe (F := F) c sm n b hl hb
  unfold ctx levs; iintro ⟨-, -, #H⟩; iapply h; iexact H

/-! ## The lanes -/

/-- A lane: a direction and a piece. -/
abbrev Lane : Type := Bool × Fin 4

/-- What device `c` holds for its transfer `s` as sender, with the lane's first `n` transfers started and the first `p`
    known read: before the start, the two duties' tokens and the view it will write; then the credit to wait with; then
    the source back. -/
def sItem (c : Dev nD) (s : Slot) (n p : ℕ) : sProp 𝕄 :=
  if s.1.val < p then iprop(semVal (sCell c s) 0 ∗ held (srcH c s) c (valS X c s))
  else iprop(atPos ER (sCell c s) 0 ∅ 0 ∗
    if s.1.val < n then cred (tallyAt (sCell c s) () N)
    else iprop(dutyTok ER (sCell c s) 0 true ∗ dutyTok ER (rCell (toD s.2.1 c) s) 0 true ∗ own1 (F := F) (dstH c s) (toD s.2.1 c)))

/-- What device `c` holds for the transfer `s` it receives, with the lane's first `q` transfers received. -/
def rItem (c : Dev nD) (s : Slot) (q : ℕ) : sProp 𝕄 :=
  if s.1.val < q then semVal (rCell c s) 0
  else iprop(atPos ER (rCell c s) 0 ∅ 0 ∗ cred (tallyAt (rCell c s) () N))

/-- A lane's send cells, `n` of them started and `p` of them waited for. -/
def sLane (c : Dev nD) (l : Lane) (n p : ℕ) : sProp 𝕄 := bigSep Finset.univ fun h : Fin 30 => sItem X c (h, l) n p
/-- A lane's landing cells, `q` of them waited for. -/
def rLane (c : Dev nD) (l : Lane) (q : ℕ) : sProp 𝕄 := bigSep Finset.univ fun h : Fin 30 => rItem (F := F) c (h, l) q

/-- Device `c` owes what its transfers from the `n`-th on will give. -/
def owing (c : Dev nD) (n : ℕ) : sProp 𝕄 := iprop(∃ W, owes (c : Thread nD τ) (oweN c n) W)

/-- Device `c`'s staged input. -/
def xPts (c : Dev nD) : sProp 𝕄 := iprop((c : Thread nD τ).loc cc0_stg0_0 ↦{fullShare} (X c))

/-- A send cell's state depends on the two counts only through this hop's place. -/
theorem sItem_congr (c : Dev nD) (s : Slot) (n p n' p' : ℕ) (hp : s.1.val < p ↔ s.1.val < p') (hn : s.1.val < n ↔ s.1.val < n') :
    sItem X c s n p = sItem X c s n' p' := by
  unfold sItem; simp only [hp, hn]
/-- A landing cell's state depends on the count only through this hop's place. -/
theorem rItem_congr (c : Dev nD) (s : Slot) (q q' : ℕ) (hq : s.1.val < q ↔ s.1.val < q') :
    rItem (F := F) c s q = rItem c s q' := by
  unfold rItem; simp only [hq]

/-- One hop's send cell taken out of a lane. -/
theorem sLane_split (c : Dev nD) (l : Lane) (n p : ℕ) (h : Fin 30) :
    sLane X c l n p = iprop(sItem X c (h, l) n p ∗ bigSep (Finset.univ.erase h) fun h => sItem X c (h, l) n p) := by
  unfold sLane; exact bigSep_univ_at _ h
/-- One hop's landing cell taken out of a lane. -/
theorem rLane_split (c : Dev nD) (l : Lane) (q : ℕ) (h : Fin 30) :
    rLane (F := F) c l q = iprop(rItem c (h, l) q ∗ bigSep (Finset.univ.erase h) fun h => rItem c (h, l) q) := by
  unfold rLane; exact bigSep_univ_at _ h

/-- The other hops' send cells do not change when this hop starts. -/
theorem sRest_n (c : Dev nD) (l : Lane) (p : ℕ) (h : Fin 30) :
    (bigSep (Finset.univ.erase h) fun j => sItem X c (j, l) h.val p : sProp 𝕄) = bigSep (Finset.univ.erase h) fun j => sItem X c (j, l) (h.val + 1) p :=
  bigSep_congr fun j hj => sItem_congr X c _ _ _ _ _ Iff.rfl (by
    have : j.val ≠ h.val := fun e => (Finset.mem_erase.mp hj).1 (Fin.ext e)
    show j.val < h.val ↔ j.val < h.val + 1
    omega)
/-- The other hops' send cells do not change when this hop's send is waited for. -/
theorem sRest_p (c : Dev nD) (l : Lane) (n : ℕ) (h : Fin 30) :
    (bigSep (Finset.univ.erase h) fun j => sItem X c (j, l) n h.val : sProp 𝕄) = bigSep (Finset.univ.erase h) fun j => sItem X c (j, l) n (h.val + 1) :=
  bigSep_congr fun j hj => sItem_congr X c _ _ _ _ _ (by
    have : j.val ≠ h.val := fun e => (Finset.mem_erase.mp hj).1 (Fin.ext e)
    show j.val < h.val ↔ j.val < h.val + 1
    omega) Iff.rfl
/-- The other hops' landing cells do not change when this hop's landing is waited for. -/
theorem rRest_q (c : Dev nD) (l : Lane) (h : Fin 30) :
    (bigSep (Finset.univ.erase h) fun j => rItem (F := F) c (j, l) h.val : sProp 𝕄) = bigSep (Finset.univ.erase h) fun j => rItem c (j, l) (h.val + 1) :=
  bigSep_congr fun j hj => rItem_congr c _ _ _ (by
    have : j.val ≠ h.val := fun e => (Finset.mem_erase.mp hj).1 (Fin.ext e)
    show j.val < h.val ↔ j.val < h.val + 1
    omega)

/-! ## One operation at a time -/

/-- The start of the transfer of hop `h` of a lane, whatever the views and semaphores are written as. -/
theorem wp_start (c : Dev nD) (l : Lane) (h : Fin 30) (i : ℕ) (hi : i < 240) (he : slotAt i hi = (h, l)) (p : ℕ) (hp : p ≤ h.val)
    (n : Dev nD) (src dst : Memref sig .tc .vmem S32x1024 .bf16) (ss rs : DmaSem sig)
    (h1 : src.view.WordExact) (h2 : dst.view.WordExact) {hsc} {hty}
    (hn : n = toD l.1 c) (hsrc : src = srcH c (h, l)) (hdst : dst = dstH c (h, l)) (hss : ss = slotSem false (h, l)) (hrs : rs = slotSem true (h, l))
    (hN : dst.view.dmaCredit = N)
    {α : Type} {Q : α → sProp 𝕄} {k : PUnit → Prog (TpuEff nD τ sig (Elt F) Λ₀ .tc) α} :
    iprop(ctx X K ∗ owing c i ∗ sLane X c l h.val p ∗ held (srcH c (h, l)) c (valS X c (h, l)))
      ⊢ iprop((owing c (i + 1) ∗ sLane X c l (h.val + 1) p -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc n : Thread nD τ) dst (.dma ss) hsc) (.dma rs) h1 h2 hty) k) Q) := by
  subst hn hsrc hdst hss hrs
  have hO : oweN c i = oweN c (i + 1) + tallyAt (rCell (toD l.1 c) (h, l)) () N := by have := oweN_step c i hi; rw [he] at this; exact this
  rw [sLane_split X c l h.val p h, sLane_split X c l (h.val + 1) p h, sRest_n]
  unfold sItem
  rw [if_neg (by show ¬ h.val < p; omega), if_neg (by show ¬ h.val < h.val; omega), if_neg (by show ¬ h.val < p; omega),
    if_pos (by show h.val < h.val + 1; omega)]
  unfold held own1 owing
  iintro ⟨#Hc, ⟨%W, HO⟩, ⟨⟨Hat, HtS, HtR, ⟨%w, Hd⟩⟩, Hrest⟩, ⟨%fs, %hfs, Hs⟩⟩ Hk
  unfold held
  icases Hd with ⟨%fd, -, Hd⟩
  iapply (Rounds.wp_send_pointsTo 𝒱₀ ER (rd X) (c : Thread nD τ) none (κ₁ := K (c, some (false, (h, l)))) (κ₂ := K (toD l.1 c, some (true, (h, l))))
    (r₁ := 0) (r₂ := 0) (d₁ := true) (d₂ := true) (fd := fd)
    (by rw [duties_dma]; exact Finset.mem_singleton_self _) (by rw [duties_dma]; exact Finset.mem_singleton_self _)
    () () N (by exact hN) (amount_dma X c false (h, l) true) (amount_dma X (toD l.1 c) true (h, l) true) (oweN c (i + 1))
    hO (W := W)
    (by rw [payload_dma]; unfold dmaPay held; dsimp only [cond_false]
        iintro H; iexists fs; isplitr
        · ipureintro; exact hfs
        iexact H)
    (by rw [payload_dma]; unfold dmaPay held; dsimp only [cond_true]; rw [fr_to]
        iintro H; iexists _; isplitr
        swap; · iexact H
        ipureintro; rw [View.read_write_univ, hfs])) $$ [Hs Hd HO HtS HtR]
  · isplitr; · iapply (ctx_inv X K (c, some (false, (h, l)))); iexact Hc
    isplitr; · iapply (ctx_inv X K (toD l.1 c, some (true, (h, l)))); iexact Hc
    isplitl [Hs]; · iexact Hs
    isplitl [Hd]; · iexact Hd
    isplitl [HO]; · iexact HO
    isplitl [HtS]; · iexact HtS
    isplitr; · iapply (ctx_reached X K (c, some (false, (h, l)))); iexact Hc
    isplitl [HtR]; · iexact HtR
    iapply (ctx_reached X K (toD l.1 c, some (true, (h, l)))); iexact Hc
  iintro ⟨Hcr, HO⟩
  iapply Hk
  isplitl [HO]; · iexists W; iexact HO
  isplitl [Hat Hcr]
  · isplitl [Hat]; · iexact Hat
    iexact Hcr
  iexact Hrest

/-- The wait for the arrival of hop `h` of a lane: the view written comes. -/
theorem wp_recv (c : Dev nD) (l : Lane) (h : Fin 30) (n : ℕ) (hlev : h.val < n / 8)
    (src dst : Memref sig .tc .vmem S32x1024 .bf16) (rs : DmaSem sig)
    {h1 : src.view.WordExact} {h2 : dst.view.WordExact}
    (hrs : rs = slotSem true (h, l)) (hN : dst.view.dmaCredit = N)
    {α : Type} {Q : α → sProp 𝕄} {k : PUnit → Prog (TpuEff nD τ sig (Elt F) Λ₀ .tc) α} :
    iprop(ctx X K ∗ owing c n ∗ rLane c l h.val)
      ⊢ iprop((owing c n ∗ rLane c l (h.val + 1) ∗ held (dstH (frD l.1 c) (h, l)) c (valS X (frD l.1 c) (h, l))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 rs src dst h1 h2) k) Q) := by
  subst hrs
  have hmw : ctx X K ⊢ MayWait (c : Thread nD τ) (.dma (slotSem true (h, l))) () (oweN c n) :=
    ctx_mayWait X K c (.dma (slotSem true (h, l))) n (2 + h.val) (le_of_eq (lv_r c (h, l) ())) (by omega)
  rw [rLane_split c l h.val h, rLane_split c l (h.val + 1) h, rRest_q]
  unfold rItem owing
  rw [if_neg (by show ¬ h.val < h.val; omega), if_pos (by show h.val < h.val + 1; omega)]
  iintro ⟨#Hc, ⟨%W, HO⟩, ⟨Hat, Hcr⟩, Hrest⟩ Hk
  iapply (Rounds.wp_wait_rest_token 𝒱₀ ER (rd X) (c : Thread nD τ) none (κ := K (c, some (true, (h, l))))
      (wpE_waitDma2_eq 𝒱₀ (c : Thread nD τ) none Set.univ) (Set.mem_univ _) () (O := oweN c n) (W := W) (R := 0) (m := 0) (T := ∅)
      (by rw [Nat.zero_add, expect_dma, hN])) $$ [Hcr HO Hat]
  · isplitr; · iapply (ctx_inv X K (c, some (true, (h, l)))); iexact Hc
    isplitl [Hcr]; · rw [hN]; iexact Hcr
    isplitl [HO]; · iexact HO
    isplitr
    · iapply hmw; iexact Hc
    iexact Hat
  iintro ⟨HO, Hat, -, Hp⟩
  ihave Hp := (Entails.of_eq (rest_dma X c true (h, l))) $$ Hp
  imod (Rounds.cell_close ER (rd X) (Set.mem_univ (K (c, some (true, (h, l))))) (fun h => h) (R := 0 + 1)
    (duties_later X (rCell c (h, l)))) $$ [Hat] with Hz
  · isplitr; · iapply (ctx_inv X K (c, some (true, (h, l)))); iexact Hc
    iexact Hat
  iapply Hk
  isplitl [HO]; · iexists _; iexact HO
  isplitl [Hz Hrest]
  · isplitl [Hz]; · iexact Hz
    iexact Hrest
  unfold dmaPay; dsimp only [cond_true]; iexact Hp

/-- The wait for the reading of the source of hop `h` of a lane: the source comes back. -/
theorem wp_sent (c : Dev nD) (l : Lane) (h : Fin 30) (m n : ℕ) (hm : h.val < m)
    (src dst : Memref sig .tc .vmem S32x1024 .bf16) (ss : DmaSem sig)
    {h1 : src.view.WordExact} {h2 : dst.view.WordExact}
    (hss : ss = slotSem false (h, l)) (hN : dst.view.dmaCredit = N)
    {α : Type} {Q : α → sProp 𝕄} {k : PUnit → Prog (TpuEff nD τ sig (Elt F) Λ₀ .tc) α} :
    iprop(ctx X K ∗ owing c n ∗ sLane X c l m h.val)
      ⊢ iprop((owing c n ∗ sLane X c l m (h.val + 1) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 ss src dst h1 h2) k) Q) := by
  subst hss
  have hmw : ctx X K ⊢ MayWait (c : Thread nD τ) (.dma (slotSem false (h, l))) () (oweN c n) :=
    ctx_mayWait X K c (.dma (slotSem false (h, l))) n 0 (le_of_eq (lv_s c (h, l) ())) (by omega)
  rw [sLane_split X c l m h.val h, sLane_split X c l m (h.val + 1) h, sRest_p]
  unfold sItem owing
  rw [if_neg (by show ¬ h.val < h.val; omega), if_pos (by show h.val < m; omega), if_pos (by show h.val < h.val + 1; omega)]
  iintro ⟨#Hc, ⟨%W, HO⟩, ⟨Hat, Hcr⟩, Hrest⟩ Hk
  iapply (Rounds.wp_wait_rest_token 𝒱₀ ER (rd X) (c : Thread nD τ) none (κ := K (c, some (false, (h, l))))
      (wpE_waitDma2_eq 𝒱₀ (c : Thread nD τ) none Set.univ) (Set.mem_univ _) () (O := oweN c n) (W := W) (R := 0) (m := 0) (T := ∅)
      (by rw [Nat.zero_add, expect_dma, hN])) $$ [Hcr HO Hat]
  · isplitr; · iapply (ctx_inv X K (c, some (false, (h, l)))); iexact Hc
    isplitl [Hcr]; · rw [hN]; iexact Hcr
    isplitl [HO]; · iexact HO
    isplitr
    · iapply hmw; iexact Hc
    iexact Hat
  iintro ⟨HO, Hat, -, Hp⟩
  ihave Hp := (Entails.of_eq (rest_dma X c false (h, l))) $$ Hp
  imod (Rounds.cell_close ER (rd X) (Set.mem_univ (K (c, some (false, (h, l))))) (fun h => h) (R := 0 + 1)
    (duties_later X (sCell c (h, l)))) $$ [Hat] with Hz
  · isplitr; · iapply (ctx_inv X K (c, some (false, (h, l)))); iexact Hc
    iexact Hat
  iapply Hk
  isplitl [HO]; · iexists _; iexact HO
  isplitl [Hz Hp]
  · isplitl [Hz]; · iexact Hz
    unfold dmaPay; dsimp only [cond_false]; iexact Hp
  iexact Hrest

/-! ## Loads and stores -/

/-- A load of the rows a held view reads. -/
theorem wp_load_held (c : Dev nD) {s : Shape} (M : Memref sig .tc .vmem s .bf16) (r : Rect s) (hr : ∀ a, r.stride a = 1)
    (hq : r.shape.Squeezes S32x1024) (hc : r.shape.ShapeCasts S32x1024) {hl : M.view.LoadsAt r.toLoadRect} (w : Vec F S32x1024 .bf16)
    {α : Type} {Q : α → sProp 𝕄} {k : (r.shape.Idx → Elt F .bf16) → Prog (TpuEff nD τ sig (Elt F) Λ₀ .tc) α} :
    held ((M.slice r hr).squeeze S32x1024 hq) c w
      ⊢ iprop((∀ y : r.shape.Idx → Elt F .bf16, ⌜shapeCast S32x1024 y hc = w⌝ -∗ held ((M.slice r hr).squeeze S32x1024 hq) c w
          -∗ wp frame (wpE (defs₀ (F := F)) 𝒱₀ (c : Thread nD τ) none) Set.univ (k y) Q)
        -∗ wp frame (wpE (defs₀ (F := F)) 𝒱₀ (c : Thread nD τ) none) Set.univ (.op (.load M r.toLoadRect hl) k) Q) := by
  unfold held
  iintro ⟨%f, %hf, Hp⟩ Hk
  iapply (wp_load 𝒱₀ (c : Thread nD τ) none Set.univ (m := M) (S := ((M.slice r hr).squeeze S32x1024 hq).view.set) (f := f)
    (by rw [View.set_reshape, View.set_slice]; exact subset_rfl)) $$ Hp
  iintro Hp
  iapply Hk $$ %(M.view.readAt (Elt F) r.toLoadRect f) [] [Hp]
  · ipureintro; exact hf
  iexists f; isplitr
  · ipureintro; exact hf
  iexact Hp

/-- A store of the rows a held view reads. -/
theorem wp_store_held (c : Dev nD) {s : Shape} (M : Memref sig .tc .vmem s .bf16) (r : Rect s) (hr : ∀ a, r.stride a = 1)
    (hq : r.shape.Squeezes S32x1024) (hc : r.shape.ShapeCasts S32x1024) {v : r.shape.Idx → Elt F .bf16} {hx hm}
    {α : Type} {Q : α → sProp 𝕄} {k : PUnit → Prog (TpuEff nD τ sig (Elt F) Λ₀ .tc) α} :
    own1 (F := F) ((M.slice r hr).squeeze S32x1024 hq) c
      ⊢ iprop((held ((M.slice r hr).squeeze S32x1024 hq) c (shapeCast S32x1024 v hc)
          -∗ wp frame (wpE (defs₀ (F := F)) 𝒱₀ (c : Thread nD τ) none) Set.univ (k ⟨⟩) Q)
        -∗ wp frame (wpE (defs₀ (F := F)) 𝒱₀ (c : Thread nD τ) none) Set.univ (.op (.store M r v Finset.univ hx hm) k) Q) := by
  unfold own1 held
  iintro ⟨%w, %f, -, Hp⟩ Hk
  iapply (wp_store 𝒱₀ (c : Thread nD τ) none Set.univ (m := M) (r := r) (Mk := Finset.univ) (S := ((M.slice r hr).squeeze S32x1024 hq).view.set) (f := f)
    (by rw [View.set_reshape, View.setOn_univ])) $$ Hp
  iintro Hp
  iapply Hk
  iexists _; isplitr
  swap; · iexact Hp
  ipureintro
  show shapeCast S32x1024 ((M.access r).read (Elt F) ((M.access r).write (Elt F) f v Finset.univ)) hc = _
  rw [View.read_write_univ]

/-- A load of the staged input. -/
theorem wp_load_x (c : Dev nD) (r : Rect S32x128x1024) {hl : xM.view.LoadsAt r.toLoadRect}
    {α : Type} {Q : α → sProp 𝕄} {k : (r.shape.Idx → Elt F .bf16) → Prog (TpuEff nD τ sig (Elt F) Λ₀ .tc) α} :
    xPts X c ⊢ iprop((xPts X c -∗ wp frame (wpE (defs₀ (F := F)) 𝒱₀ (c : Thread nD τ) none) Set.univ (k (xM.view.readAt (Elt F) r.toLoadRect (X c))) Q)
        -∗ wp frame (wpE (defs₀ (F := F)) 𝒱₀ (c : Thread nD τ) none) Set.univ (.op (.load xM r.toLoadRect hl) k) Q) :=
  wp_load 𝒱₀ (c : Thread nD τ) none Set.univ (m := xM) (Finset.subset_univ _)

end Cert.KernelIdealRing
end
-- ==== Proof.KernelIdealLanes.lean ====
module

public import proofs.«01_k».proof.Proof.KernelIdealSteps

@[expose] public section

noncomputable section

namespace Cert.KernelIdealRing

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Xs F) (K : Dev nD × CI → ℕ)

/-! ## The kernel's own views and semaphores are the schedule's -/

/-- The source of a transfer in the reduce-scatter. -/
theorem srcH_rs (c : Dev nD) (d : Bool) (k : Fin 4) (s : ℕ) (h : s < 15) : srcH c (⟨s, by omega⟩, d, k) = srcV d k s h := dif_pos h
/-- The target of a transfer in the reduce-scatter. -/
theorem dstH_rs (c : Dev nD) (d : Bool) (k : Fin 4) (s : ℕ) (h : s < 15) : dstH c (⟨s, by omega⟩, d, k) = rbV d ⟨s, h⟩ k := dif_pos h
/-- The source of a transfer in the all-gather. -/
theorem srcH_ag (c : Dev nD) (d : Bool) (k : Fin 4) (t : ℕ) (h : t < 15) : srcH c (⟨t + 15, by omega⟩, d, k) = obV d k c ⟨t, h⟩ := by
  unfold srcH; rw [dif_neg (by show ¬ t + 15 < 15; omega)]; rfl
/-- The target of a transfer in the all-gather. -/
theorem dstH_ag (c : Dev nD) (d : Bool) (k : Fin 4) (t : ℕ) (h : t < 15) : dstH c (⟨t + 15, by omega⟩, d, k) = obV d k c ⟨t, h⟩ := by
  unfold dstH; rw [dif_neg (by show ¬ t + 15 < 15; omega)]; rfl
/-- The send semaphore of a transfer in the reduce-scatter. -/
theorem semS_rs (d : Bool) (k : Fin 4) (s : ℕ) (h : s < 15) : at_ (rsS d) ⟨s, h⟩ k = slotSem false (⟨s, by omega⟩, d, k) := by
  unfold slotSem; rw [dif_pos (show s < 15 from h)]; rfl
/-- The landing semaphore of a transfer in the reduce-scatter. -/
theorem semR_rs (d : Bool) (k : Fin 4) (s : ℕ) (h : s < 15) : at_ (rsR d) ⟨s, h⟩ k = slotSem true (⟨s, by omega⟩, d, k) := by
  unfold slotSem; rw [dif_pos (show s < 15 from h)]; rfl
/-- The send semaphore of a transfer in the all-gather. -/
theorem semS_ag (d : Bool) (k : Fin 4) (t : ℕ) (h : t < 15) : at_ (agS d) ⟨t, h⟩ k = slotSem false (⟨t + 15, by omega⟩, d, k) := by
  unfold slotSem; rw [dif_neg (by show ¬ t + 15 < 15; omega)]; rfl
/-- The landing semaphore of a transfer in the all-gather. -/
theorem semR_ag (d : Bool) (k : Fin 4) (t : ℕ) (h : t < 15) : at_ (agR d) ⟨t, h⟩ k = slotSem true (⟨t + 15, by omega⟩, d, k) := by
  unfold slotSem; rw [dif_neg (by show ¬ t + 15 < 15; omega)]; rfl

/-- A copy into a piece of the receive buffer pays the amount of one piece. -/
theorem rbV_credit (d : Bool) (s : Fin 15) (k : Fin 4) : (rbV d s k).view.dmaCredit = N := by cases d <;> rfl
/-- A piece of the send buffer has the amount of one piece. -/
theorem sbV_credit (d : Bool) (k : Fin 4) : (sbV d k).view.dmaCredit = N := by cases d <;> rfl
/-- A copy into a piece of the result pays the amount of one piece. -/
theorem obV_credit (d : Bool) (k : Fin 4) (c : Dev nD) (t : Fin 15) : (obV d k c t).view.dmaCredit = N := rfl
/-- The source of any hop of the reduce-scatter has the amount of one piece. -/
theorem srcV_credit (d : Bool) (k : Fin 4) : (s : ℕ) → (h : s < 15) → (srcV d k s h).view.dmaCredit = N
  | 0, _ => sbV_credit d k
  | _ + 1, _ => rbV_credit d _ k

/-- The first hop carries the sender's own rows. -/
theorem val_zero (d : Bool) (k : Fin 4) (c : Dev nD) : val X d k 0 c = xrow X d k 0 c := rfl
/-- A later hop of the reduce-scatter carries the received sum plus the sender's own rows. -/
theorem val_add (d : Bool) (k : Fin 4) (c : Dev nD) (s : ℕ) (h : s + 1 < 15) :
    val X d k (s + 1) c = addf (val X d k s (frD d c)) (xrow X d k ⟨s + 1, h⟩ c) := by
  rw [val, dif_pos h]
/-- The first hop of the all-gather carries the whole sum. -/
theorem val_fin (d : Bool) (k : Fin 4) (c : Dev nD) :
    val X d k 15 c = addf (val X d k 14 (frD d c)) (frow X d k c) := by
  rw [val, dif_neg (by decide), if_pos (by decide)]
/-- A later hop of the all-gather carries what was received. -/
theorem val_ag (d : Bool) (k : Fin 4) (c : Dev nD) (t : ℕ) (h : 15 ≤ t) : val X d k (t + 1) c = val X d k t (frD d c) := by
  rw [val, dif_neg (by omega), if_neg (by omega)]

/-- The transfer at place `i` of the body's order, by its hop, direction and piece. -/
theorem slotAt_eq (j : ℕ) (hj : j < 30) (d : Bool) (k : Fin 4) (i : ℕ) (hi : i = 8 * j + (2 * k.val + d.toNat)) (h : i < 240) :
    slotAt i h = (⟨j, hj⟩, d, k) := by
  have hk := k.isLt
  have hd : d.toNat ≤ 1 := Bool.toNat_le d
  unfold slotAt
  refine Prod.ext (Fin.ext ?_) (Prod.ext ?_ (Fin.ext ?_))
  · show i / 8 = j; omega
  · show decide (i % 2 = 1) = d
    cases d
    · exact decide_eq_false (by simp only [Bool.toNat_false] at hi; omega)
    · exact decide_eq_true (by simp only [Bool.toNat_true] at hi; omega)
  · show i % 8 / 2 = k.val; omega

/-! ## The state of a lane -/

/-- What lane `(d, k)` of device `c` holds beside its transfers' records with `j` hops done: the pieces it has not sent yet
    and those it will not send. -/
def extra (c : Dev nD) (d : Bool) (k : Fin 4) (j : ℕ) : sProp 𝕄 :=
  if j = 0 then iprop(own1 (F := F) (sbV d k) c ∗ own1 (F := F) (obV d k c 0) c)
  else if j < 16 then own1 (F := F) (obV d k c 0) c
  else held (rbV d 14 k) c (val X d k 14 (frD d c))

/-- Lane `l` of device `c` with `j` hops done. -/
def lane (c : Dev nD) (j : ℕ) (l : Lane) : sProp 𝕄 :=
  iprop(sLane X c l j (j - 2) ∗ rLane (F := F) c l (j - 1) ∗ extra X c l.1 l.2 j)

/-- Lane `l` of device `c` at the end: every transfer sent and received. -/
def laneEnd (c : Dev nD) (l : Lane) : sProp 𝕄 :=
  iprop(sLane X c l 30 30 ∗ rLane (F := F) c l 30 ∗ held (rbV l.1 14 l.2) c (val X l.1 l.2 14 (frD l.1 c))
    ∗ held (obV l.1 l.2 (frD l.1 c) 14) c (val X l.1 l.2 29 (frD l.1 c)))

/-- What a device carries through all its lanes' work, `i` transfers started. -/
def Rs (c : Dev nD) (i : ℕ) : sProp 𝕄 := iprop(ctx X K ∗ owing c i ∗ xPts X c)

/-! ## The operations of a hop -/

section Ops
variable (c : Dev nD) (d : Bool) (k : Fin 4)

/-- Starting a copy of the reduce-scatter. -/
theorem wp_startRS (j : ℕ) (hj : j < 15) (i : ℕ) (hi : i = 8 * j + (2 * k.val + d.toNat)) (p : ℕ) (hp : p ≤ j) {h1 : (srcV d k j hj).view.WordExact}
    {h2 : (rbV d ⟨j, hj⟩ k).view.WordExact} {h3 h4}
    {α : Type} {Q : α → sProp 𝕄} {κ : PUnit → Prog (TpuEff nD τ sig (Elt F) Λ₀ .tc) α} :
    iprop(Rs X K c i ∗ sLane X c (d, k) j p ∗ held (srcV d k j hj) c (val X d k j c))
      ⊢ iprop((Rs X K c (i + 1) ∗ sLane X c (d, k) (j + 1) p -∗ wp frame (wpE (defs₀ (F := F)) 𝒱₀ (c : Thread nD τ) none) Set.univ (κ ⟨⟩) Q)
        -∗ wp frame (wpE (defs₀ (F := F)) 𝒱₀ (c : Thread nD τ) none) Set.univ
          (.op (.enqueueDma (srcV d k j hj) (.remote (Dev.tc (peer d c) : Thread nD τ) (rbV d ⟨j, hj⟩ k) (.dma (at_ (rsS d) ⟨j, hj⟩ k)) h3) (.dma (at_ (rsR d) ⟨j, hj⟩ k)) h1 h2 h4) κ) Q) := by
  have hk := k.isLt
  have hd : d.toNat ≤ 1 := Bool.toNat_le d
  unfold Rs
  iintro ⟨⟨#Hc, HO, Hx⟩, HL, Hs⟩ Hk
  iapply (wp_start X K c (d, k) ⟨j, by omega⟩ i (by omega) (slotAt_eq j (by omega) d k i hi _) p hp _ _ _ _ _ _ _
    (peer_eq d c) (srcH_rs c d k j hj).symm (dstH_rs c d k j hj).symm (semS_rs d k j hj) (semR_rs d k j hj) (rbV_credit d ⟨j, hj⟩ k)) $$ [HO HL Hs]
  · isplitr; · iexact Hc
    isplitl [HO]; · iexact HO
    isplitl [HL]; · iexact HL
    rw [srcH_rs c d k j hj]; iexact Hs
  iintro ⟨HO, HL⟩
  iapply Hk
  isplitr [HL]
  · isplitr; · iexact Hc
    isplitl [HO]; · iexact HO
    iexact Hx
  iexact HL

/-- Starting a copy of the all-gather. -/
theorem wp_startAG (t : ℕ) (ht : t < 15) (i : ℕ) (hi : i = 8 * (t + 15) + (2 * k.val + d.toNat)) (p : ℕ) (hp : p ≤ t + 15) {h1 h2 : (obV d k c ⟨t, ht⟩).view.WordExact} {h3 h4}
    {α : Type} {Q : α → sProp 𝕄} {κ : PUnit → Prog (TpuEff nD τ sig (Elt F) Λ₀ .tc) α} :
    iprop(Rs X K c i ∗ sLane X c (d, k) (t + 15) p ∗ held (obV d k c ⟨t, ht⟩) c (val X d k (t + 15) c))
      ⊢ iprop((Rs X K c (i + 1) ∗ sLane X c (d, k) (t + 15 + 1) p -∗ wp frame (wpE (defs₀ (F := F)) 𝒱₀ (c : Thread nD τ) none) Set.univ (κ ⟨⟩) Q)
        -∗ wp frame (wpE (defs₀ (F := F)) 𝒱₀ (c : Thread nD τ) none) Set.univ
          (.op (.enqueueDma (obV d k c ⟨t, ht⟩) (.remote (Dev.tc (peer d c) : Thread nD τ) (obV d k c ⟨t, ht⟩) (.dma (at_ (agS d) ⟨t, ht⟩ k)) h3) (.dma (at_ (agR d) ⟨t, ht⟩ k)) h1 h2 h4) κ) Q) := by
  have hk := k.isLt
  have hd : d.toNat ≤ 1 := Bool.toNat_le d
  unfold Rs
  iintro ⟨⟨#Hc, HO, Hx⟩, HL, Hs⟩ Hk
  iapply (wp_start X K c (d, k) ⟨t + 15, by omega⟩ i (by omega) (slotAt_eq (t + 15) (by omega) d k i hi _) p hp _ _ _ _ _ _ _
    (peer_eq d c) (srcH_ag c d k t ht).symm (dstH_ag c d k t ht).symm (semS_ag d k t ht) (semR_ag d k t ht) (obV_credit d k c ⟨t, ht⟩)) $$ [HO HL Hs]
  · isplitr; · iexact Hc
    isplitl [HO]; · iexact HO
    isplitl [HL]; · iexact HL
    rw [srcH_ag c d k t ht]; iexact Hs
  iintro ⟨HO, HL⟩
  iapply Hk
  isplitr [HL]
  · isplitr; · iexact Hc
    isplitl [HO]; · iexact HO
    iexact Hx
  iexact HL

/-- Waiting for a landing of the reduce-scatter gives the rows with the sum in them. -/
theorem wp_recvRS (s : ℕ) (hs : s < 15) (i : ℕ) (hi : s < i / 8) {h1 h2}
    {α : Type} {Q : α → sProp 𝕄} {κ : PUnit → Prog (TpuEff nD τ sig (Elt F) Λ₀ .tc) α} :
    iprop(Rs X K c i ∗ rLane c (d, k) s)
      ⊢ iprop((Rs X K c i ∗ rLane c (d, k) (s + 1) ∗ held (rbV d ⟨s, hs⟩ k) c (val X d k s (frD d c))
          -∗ wp frame (wpE (defs₀ (F := F)) 𝒱₀ (c : Thread nD τ) none) Set.univ (κ ⟨⟩) Q)
        -∗ wp frame (wpE (defs₀ (F := F)) 𝒱₀ (c : Thread nD τ) none) Set.univ
          (.op (.waitDma2 (at_ (rsR d) ⟨s, hs⟩ k) (srcV d k s hs) (rbV d ⟨s, hs⟩ k) h1 h2) κ) Q) := by
  unfold Rs
  iintro ⟨⟨#Hc, HO, Hx⟩, HL⟩ Hk
  iapply (wp_recv X K c (d, k) ⟨s, by omega⟩ i hi _ _ _ (semR_rs d k s hs) (rbV_credit d ⟨s, hs⟩ k)) $$ [HO HL]
  · isplitr; · iexact Hc
    isplitl [HO]; · iexact HO
    iexact HL
  rw [dstH_rs (frD d c) d k s hs]
  iintro ⟨HO, HL, Hh⟩
  iapply Hk
  isplitr [HL Hh]
  · isplitr; · iexact Hc
    isplitl [HO]; · iexact HO
    iexact Hx
  isplitl [HL]; · iexact HL
  iexact Hh

/-- Waiting for a landing of the all-gather gives the rows with the sum in them. -/
theorem wp_recvAG (t : ℕ) (ht : t < 15) (i : ℕ) (hi : t + 15 < i / 8) {h1 h2}
    {α : Type} {Q : α → sProp 𝕄} {κ : PUnit → Prog (TpuEff nD τ sig (Elt F) Λ₀ .tc) α} :
    iprop(Rs X K c i ∗ rLane c (d, k) (t + 15))
      ⊢ iprop((Rs X K c i ∗ rLane c (d, k) (t + 15 + 1) ∗ held (obV d k (frD d c) ⟨t, ht⟩) c (val X d k (t + 15) (frD d c))
          -∗ wp frame (wpE (defs₀ (F := F)) 𝒱₀ (c : Thread nD τ) none) Set.univ (κ ⟨⟩) Q)
        -∗ wp frame (wpE (defs₀ (F := F)) 𝒱₀ (c : Thread nD τ) none) Set.univ
          (.op (.waitDma2 (at_ (agR d) ⟨t, ht⟩ k) (obV d k c ⟨t, ht⟩) (obV d k c ⟨t, ht⟩) h1 h2) κ) Q) := by
  unfold Rs
  iintro ⟨⟨#Hc, HO, Hx⟩, HL⟩ Hk
  iapply (wp_recv X K c (d, k) ⟨t + 15, by omega⟩ i hi _ _ _ (semR_ag d k t ht) (obV_credit d k c ⟨t, ht⟩)) $$ [HO HL]
  · isplitr; · iexact Hc
    isplitl [HO]; · iexact HO
    iexact HL
  rw [dstH_ag (frD d c) d k t ht]
  iintro ⟨HO, HL, Hh⟩
  iapply Hk
  isplitr [HL Hh]
  · isplitr; · iexact Hc
    isplitl [HO]; · iexact HO
    iexact Hx
  isplitl [HL]; · iexact HL
  iexact Hh

/-- Waiting for a send of the reduce-scatter gives its source back. -/
theorem wp_sentRS (s : ℕ) (hs : s < 15) (i m : ℕ) (hm : s < m) {h1 h2}
    {α : Type} {Q : α → sProp 𝕄} {κ : PUnit → Prog (TpuEff nD τ sig (Elt F) Λ₀ .tc) α} :
    iprop(Rs X K c i ∗ sLane X c (d, k) m s)
      ⊢ iprop((Rs X K c i ∗ sLane X c (d, k) m (s + 1) -∗ wp frame (wpE (defs₀ (F := F)) 𝒱₀ (c : Thread nD τ) none) Set.univ (κ ⟨⟩) Q)
        -∗ wp frame (wpE (defs₀ (F := F)) 𝒱₀ (c : Thread nD τ) none) Set.univ
          (.op (.waitDma2 (at_ (rsS d) ⟨s, hs⟩ k) (rbV d ⟨s, hs⟩ k) (srcV d k s hs) h1 h2) κ) Q) := by
  unfold Rs
  iintro ⟨⟨#Hc, HO, Hx⟩, HL⟩ Hk
  iapply (wp_sent X K c (d, k) ⟨s, by omega⟩ m i hm _ _ _ (semS_rs d k s hs) (srcV_credit d k s hs)) $$ [HO HL]
  · isplitr; · iexact Hc
    isplitl [HO]; · iexact HO
    iexact HL
  iintro ⟨HO, HL⟩
  iapply Hk
  isplitr [HL]
  · isplitr; · iexact Hc
    isplitl [HO]; · iexact HO
    iexact Hx
  iexact HL

/-- Waiting for a send of the all-gather gives its source back. -/
theorem wp_sentAG (t : ℕ) (ht : t < 15) (i m : ℕ) (hm : t + 15 < m) {h1 h2}
    {α : Type} {Q : α → sProp 𝕄} {κ : PUnit → Prog (TpuEff nD τ sig (Elt F) Λ₀ .tc) α} :
    iprop(Rs X K c i ∗ sLane X c (d, k) m (t + 15))
      ⊢ iprop((Rs X K c i ∗ sLane X c (d, k) m (t + 15 + 1) -∗ wp frame (wpE (defs₀ (F := F)) 𝒱₀ (c : Thread nD τ) none) Set.univ (κ ⟨⟩) Q)
        -∗ wp frame (wpE (defs₀ (F := F)) 𝒱₀ (c : Thread nD τ) none) Set.univ
          (.op (.waitDma2 (at_ (agS d) ⟨t, ht⟩ k) (obV d k c ⟨t, ht⟩) (obV d k c ⟨t, ht⟩) h1 h2) κ) Q) := by
  unfold Rs
  iintro ⟨⟨#Hc, HO, Hx⟩, HL⟩ Hk
  iapply (wp_sent X K c (d, k) ⟨t + 15, by omega⟩ m i hm _ _ _ (semS_ag d k t ht) (obV_credit d k c ⟨t, ht⟩)) $$ [HO HL]
  · isplitr; · iexact Hc
    isplitl [HO]; · iexact HO
    iexact HL
  iintro ⟨HO, HL⟩
  iapply Hk
  isplitr [HL]
  · isplitr; · iexact Hc
    isplitl [HO]; · iexact HO
    iexact Hx
  iexact HL

/-- The stored sum, as 32 rows, is the sum of the two operands' rows. -/
theorem flat_payAdd (r x : Vec F S1x32x1024 .bf16) : flat (payAdd r x) = addf (flat r) (flat x) := by
  unfold flat payAdd
  rw [shapeCast_shapeCast]

/-- The device's own rows of hop `s + 1` added to what hop `s` landed, in place. -/
theorem wp_addIn (s : ℕ) (hs : s < 15) (h : s + 1 < 15) (i : ℕ) (w : FVec F S32x1024 .bf16) {hl hl' hl'' hx} {hm : Finset.univ = Finset.univ ∨ ∀ a, (rbR ⟨s, hs⟩ k).stride a = 1}
    {α : Type} {Q : α → sProp 𝕄} {κ : PUnit → Prog (TpuEff nD τ sig (Elt F) Λ₀ .tc) α} :
    iprop(Rs X K c i ∗ held (rbV d ⟨s, hs⟩ k) c w)
      ⊢ iprop((Rs X K c i ∗ held (rbV d ⟨s, hs⟩ k) c (addf w (xrow X d k ⟨s + 1, h⟩ c))
          -∗ wp frame (wpE (defs₀ (F := F)) 𝒱₀ (c : Thread nD τ) none) Set.univ (κ ⟨⟩) Q)
        -∗ wp frame (wpE (defs₀ (F := F)) 𝒱₀ (c : Thread nD τ) none) Set.univ
          (.op (.load (rbM d) (rbR ⟨s, hs⟩ k).toLoadRect hl) fun r => .op (.load xM (xR d k c ⟨s + 1, h⟩).toLoadRect hl') fun x =>
            .op (.load (rbM d) (rbR ⟨s, hs⟩ k).toLoadRect hl'') fun _ =>
            .op (.store (rbM d) (rbR ⟨s, hs⟩ k) (payAdd r x) Finset.univ hx hm) κ) Q) := by
  unfold Rs
  iintro ⟨⟨#Hc, HO, Hx⟩, Hh⟩ Hk
  iapply (wp_load_held c (rbM d) (rbR ⟨s, hs⟩ k) (fun _ => rfl) squeezes_S1x32x1024_S32x1024 shapeCasts_S1x32x1024_S32x1024 w) $$ Hh
  iintro %y %hy Hh
  iapply (wp_load_x X c (xR d k c ⟨s + 1, h⟩)) $$ Hx
  iintro Hx
  iapply (wp_load_held c (rbM d) (rbR ⟨s, hs⟩ k) (fun _ => rfl) squeezes_S1x32x1024_S32x1024 shapeCasts_S1x32x1024_S32x1024 w) $$ Hh
  iintro %y' - Hh
  iapply (wp_store_held c (rbM d) (rbR ⟨s, hs⟩ k) (fun _ => rfl) squeezes_S1x32x1024_S32x1024 shapeCasts_S1x32x1024_S32x1024) $$ [Hh]
  · unfold own1; iexists w; iexact Hh
  have e : shapeCast S32x1024 (payAdd y (xM.view.readAt (Elt F) (xR d k c ⟨s + 1, h⟩).toLoadRect (X c))) shapeCasts_S1x32x1024_S32x1024
      = addf w (xrow X d k ⟨s + 1, h⟩ c) := by
    rw [← hy]; exact flat_payAdd _ _
  rw [e]
  iintro Hh
  iapply Hk
  isplitr [Hh]
  · isplitr; · iexact Hc
    isplitl [HO]; · iexact HO
    iexact Hx
  iexact Hh

end Ops

end Cert.KernelIdealRing
end
-- ==== Proof.KernelIdealHopTriples.lean ====
module

public import proofs.«01_k».proof.Proof.KernelIdealLanes

@[expose] public section

noncomputable section

namespace Cert.KernelIdealRing

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Xs F) (K : Dev nD × CI → ℕ)

/-- Running `p` on device `c`, past the entry of the kernel, ends in `Q`. -/
abbrev WP (c : Dev nD) (p : PU F) (Q : PUnit → sProp 𝕄) : sProp 𝕄 :=
  wp frame (wpE (defs₀ (F := F)) 𝒱₀ (c : Thread nD τ) none) Set.univ p Q

/-- What a lane holds after `j` hops, with its two trailing positions under names of their own. -/
theorem lane_eq (c : Dev nD) (l : Lane) (j p q : ℕ) (hp : j - 2 = p) (hq : j - 1 = q) :
    lane X c j l = iprop(sLane X c l j p ∗ rLane (F := F) c l q ∗ extra X c l.1 l.2 j) := by
  subst hp hq; rfl
/-- What a lane holds besides its cells before the first hop. -/
theorem extra_zero (c : Dev nD) (d : Bool) (k : Fin 4) :
    extra X c d k 0 = iprop(own1 (F := F) (sbV d k) c ∗ own1 (F := F) (obV d k c 0) c) := if_pos rfl
/-- What a lane holds besides its cells between two hops of the reduce-scatter. -/
theorem extra_lo (c : Dev nD) (d : Bool) (k : Fin 4) (j : ℕ) (h0 : 0 < j) (h : j < 16) :
    extra X c d k j = own1 (F := F) (obV d k c 0) c := by
  unfold extra; rw [if_neg (by omega), if_pos h]
/-- What a lane holds besides its cells in the all-gather. -/
theorem extra_hi (c : Dev nD) (d : Bool) (k : Fin 4) (j : ℕ) (h : 16 ≤ j) :
    extra X c d k j = held (rbV d 14 k) c (val X d k 14 (frD d c)) := by
  unfold extra; rw [if_neg (by omega), if_neg (by omega)]

/-- A load of device `c`'s own first-hop piece. -/
theorem wp_load_sb (c : Dev nD) (d : Bool) (k : Fin 4) {hl}
    {α : Type} {Q : α → sProp 𝕄} {κ : ((sbR k).shape.Idx → Elt F .bf16) → Prog (TpuEff nD τ sig (Elt F) Λ₀ .tc) α} :
    own1 (F := F) (sbV d k) c
      ⊢ iprop((∀ y : (sbR k).shape.Idx → Elt F .bf16, own1 (F := F) (sbV d k) c
          -∗ wp frame (wpE (defs₀ (F := F)) 𝒱₀ (c : Thread nD τ) none) Set.univ (κ y) Q)
        -∗ wp frame (wpE (defs₀ (F := F)) 𝒱₀ (c : Thread nD τ) none) Set.univ (.op (.load (sbM d) (sbR k).toLoadRect hl) κ) Q) := by
  unfold own1 held
  iintro ⟨%w, %f, %hf, Hp⟩ Hk
  iapply (wp_load 𝒱₀ (c : Thread nD τ) none Set.univ (m := sbM d) (S := (sbV d k).view.set) (f := f)
    (by rw [View.set_slice]; exact subset_rfl)) $$ Hp
  iintro Hp
  iapply Hk $$ %((sbM d).view.readAt (Elt F) (sbR k).toLoadRect f) [Hp]
  iexists w, f; isplitr
  · ipureintro; exact hf
  iexact Hp

/-- The store of it. -/
theorem wp_store_sb (c : Dev nD) (d : Bool) (k : Fin 4) (v : FVec F S32x1024 .bf16) {hx} {hm : Finset.univ = Finset.univ ∨ ∀ a, (sbR k).stride a = 1}
    {α : Type} {Q : α → sProp 𝕄} {κ : PUnit → Prog (TpuEff nD τ sig (Elt F) Λ₀ .tc) α} :
    own1 (F := F) (sbV d k) c
      ⊢ iprop((held (sbV d k) c v -∗ wp frame (wpE (defs₀ (F := F)) 𝒱₀ (c : Thread nD τ) none) Set.univ (κ ⟨⟩) Q)
        -∗ wp frame (wpE (defs₀ (F := F)) 𝒱₀ (c : Thread nD τ) none) Set.univ (.op (.store (sbM d) (sbR k) v Finset.univ hx hm) κ) Q) := by
  unfold own1 held
  iintro ⟨%w, %f, -, Hp⟩ Hk
  iapply (wp_store 𝒱₀ (c : Thread nD τ) none Set.univ (m := sbM d) (r := sbR k) (Mk := Finset.univ) (S := (sbV d k).view.set) (f := f)
    (by rw [View.setOn_univ])) $$ Hp
  iintro Hp
  iapply Hk
  iexists _; isplitr
  swap; · iexact Hp
  ipureintro
  show ((sbM d).access (sbR k)).read (Elt F) (((sbM d).access (sbR k)).write (Elt F) f v Finset.univ) = v
  rw [View.read_write_univ]

/-- The rows that the last addition writes are the rows that the first hop of the all-gather sends. -/
theorem fR_view (c : Dev nD) (d : Bool) (k : Fin 4) :
    ((oM.slice (fR d k c) (fun _ => rfl)).squeeze S32x1024 squeezes_S1x32x1024_S32x1024 : Memref sig .tc .vmem S32x1024 .bf16) = obV d k c 0 :=
  ob_congr (fOff_gOff d k c) _ _

/-! ## The hops -/

/-- The first hop of the reduce-scatter on a lane. -/
theorem wp_hop0 (c : Dev nD) (d : Bool) (k : Fin 4) (i : ℕ) (hi : i = 8 * 0 + (2 * k.val + d.toNat)) (Q : PUnit → sProp 𝕄) :
    iprop(Rs X K c i ∗ lane X c 0 (d, k)) ⊢ iprop((Rs X K c (i + 1) ∗ lane X c 1 (d, k) -∗ Q ⟨⟩) -∗ WP c (hop0 c d k) Q) := by
  rw [lane_eq X c (d, k) 0 0 0 rfl rfl, lane_eq X c (d, k) 1 0 0 rfl rfl, extra_zero, extra_lo X c d k 1 (by decide) (by decide)]
  unfold hop0
  simp only [Prog.lift, Prog.bind_op, Prog.bind_ret, Prog.pure_eq_ret, startRS, startTo]
  iintro ⟨HR, HS, HL, Hsb, Hob⟩ Hk
  unfold Rs
  icases HR with ⟨#Hc, HO, Hx⟩
  iapply (wp_load_x X c (xR d k c 0)) $$ Hx
  iintro Hx
  iapply (wp_load_sb c d k) $$ Hsb
  iintro %y Hsb
  iapply (wp_store_sb c d k) $$ Hsb
  iintro Hsb
  iapply (wp_startRS X K c d k 0 _ i hi 0 (le_refl 0)) $$ [HO Hx HS Hsb]
  · unfold Rs
    isplitl [HO Hx]
    · isplitr; · iexact Hc
      isplitl [HO]; · iexact HO
      iexact Hx
    isplitl [HS]; · iexact HS
    rw [val_zero]
    unfold xrow
    have e : payCast (xM.view.readAt (Elt F) (xR d k c 0).toLoadRect (X c)) = flat (xM.view.readAt (Elt F) (xR d k c 0).toLoadRect (X c)) :=
      shapeCast_self _ _
    rw [← e]
    iexact Hsb
  unfold Rs
  iintro ⟨HR, HS⟩
  rw [wp_ret]; imodintro
  iapply Hk
  isplitl [HR]; · iexact HR
  isplitl [HS]; · iexact HS
  isplitl [HL]; · iexact HL
  iexact Hob

/-- The second hop of the reduce-scatter on a lane: no earlier send is waited for yet. -/
theorem wp_hop1 (c : Dev nD) (d : Bool) (k : Fin 4) (i : ℕ) (hi : i = 8 * 1 + (2 * k.val + d.toNat)) (Q : PUnit → sProp 𝕄) :
    iprop(Rs X K c i ∗ lane X c 1 (d, k)) ⊢ iprop((Rs X K c (i + 1) ∗ lane X c 2 (d, k) -∗ Q ⟨⟩) -∗ WP c (hop1 c d k) Q) := by
  rw [lane_eq X c (d, k) 1 0 0 rfl rfl, lane_eq X c (d, k) 2 0 1 rfl rfl, extra_lo X c d k 1 (by decide) (by decide), extra_lo X c d k 2 (by decide) (by decide)]
  unfold hop1
  simp only [Prog.lift, Prog.bind_op, Prog.bind_ret, Prog.pure_eq_ret, startRS, startTo, recvRS, await, addIn]
  iintro ⟨HR, HS, HL, Hob⟩ Hk
  iapply (wp_recvRS X K c d k 0 _ i (by omega)) $$ [HR HL]
  · isplitl [HR]; · iexact HR
    iexact HL
  iintro ⟨HR, HL, Hh⟩
  iapply (wp_addIn X K c d k 0 _ _ i (val X d k 0 (frD d c))) $$ [HR Hh]
  · isplitl [HR]; · iexact HR
    iexact Hh
  rw [← val_add]
  iintro ⟨HR, Hh⟩
  iapply (wp_startRS X K c d k 1 _ i hi 0 (by decide)) $$ [HR HS Hh]
  · isplitl [HR]; · iexact HR
    isplitl [HS]; · iexact HS
    iexact Hh
  iintro ⟨HR, HS⟩
  rw [wp_ret]; imodintro
  iapply Hk
  isplitl [HR]; · iexact HR
  isplitl [HS]; · iexact HS
  isplitl [HL]; · iexact HL
  iexact Hob

/-- Any later hop of the reduce-scatter on a lane. -/
theorem wp_hopRS (c : Dev nD) (s : ℕ) (h : s + 2 < 15) (d : Bool) (k : Fin 4) (i : ℕ) (hi : i = 8 * (s + 2) + (2 * k.val + d.toNat)) (Q : PUnit → sProp 𝕄) :
    iprop(Rs X K c i ∗ lane X c (s + 2) (d, k)) ⊢ iprop((Rs X K c (i + 1) ∗ lane X c (s + 2 + 1) (d, k) -∗ Q ⟨⟩) -∗ WP c (hopRS c s h d k) Q) := by
  rw [lane_eq X c (d, k) (s + 2) s (s + 1) rfl rfl, lane_eq X c (d, k) (s + 2 + 1) (s + 1) (s + 2) rfl rfl,
    extra_lo X c d k (s + 2) (by omega) (by omega), extra_lo X c d k (s + 2 + 1) (by omega) (by omega)]
  unfold hopRS
  simp only [Prog.lift, Prog.bind_op, Prog.bind_ret, Prog.pure_eq_ret, startRS, startTo, recvRS, sentRS, await, addIn]
  iintro ⟨HR, HS, HL, Hob⟩ Hk
  iapply (wp_recvRS X K c d k (s + 1) _ i (by omega)) $$ [HR HL]
  · isplitl [HR]; · iexact HR
    iexact HL
  iintro ⟨HR, HL, Hh⟩
  iapply (wp_sentRS X K c d k s _ i (s + 2) (by omega)) $$ [HR HS]
  · isplitl [HR]; · iexact HR
    iexact HS
  iintro ⟨HR, HS⟩
  iapply (wp_addIn X K c d k (s + 1) _ _ i (val X d k (s + 1) (frD d c))) $$ [HR Hh]
  · isplitl [HR]; · iexact HR
    iexact Hh
  rw [← val_add]
  iintro ⟨HR, Hh⟩
  iapply (wp_startRS X K c d k (s + 2) _ i hi (s + 1) (by omega)) $$ [HR HS Hh]
  · isplitl [HR]; · iexact HR
    isplitl [HS]; · iexact HS
    iexact Hh
  iintro ⟨HR, HS⟩
  rw [wp_ret]; imodintro
  iapply Hk
  isplitl [HR]; · iexact HR
  isplitl [HS]; · iexact HS
  isplitl [HL]; · iexact HL
  iexact Hob

/-- The last addition on a lane, and the first hop of the all-gather. -/
theorem wp_hopFin (c : Dev nD) (d : Bool) (k : Fin 4) (i : ℕ) (hi : i = 8 * 15 + (2 * k.val + d.toNat)) (Q : PUnit → sProp 𝕄) :
    iprop(Rs X K c i ∗ lane X c 15 (d, k)) ⊢ iprop((Rs X K c (i + 1) ∗ lane X c 16 (d, k) -∗ Q ⟨⟩) -∗ WP c (hopFin c d k) Q) := by
  rw [lane_eq X c (d, k) 15 13 14 rfl rfl, lane_eq X c (d, k) 16 14 15 rfl rfl, extra_lo X c d k 15 (by decide) (by decide), extra_hi X c d k 16 (le_refl 16)]
  unfold hopFin
  simp only [Prog.lift, Prog.bind_op, Prog.bind_ret, Prog.pure_eq_ret, startAG, startTo, recvRS, sentRS, await]
  iintro ⟨HR, HS, HL, Hob⟩ Hk
  iapply (wp_recvRS X K c d k 14 _ i (by omega)) $$ [HR HL]
  · isplitl [HR]; · iexact HR
    iexact HL
  rw [show (⟨14, by decide⟩ : Fin 15) = 14 from rfl]
  iintro ⟨HR, HL, Hh⟩
  iapply (wp_sentRS X K c d k 13 _ i 15 (by decide)) $$ [HR HS]
  · isplitl [HR]; · iexact HR
    iexact HS
  unfold Rs
  iintro ⟨⟨#Hc, HO, Hx⟩, HS⟩
  iapply (wp_load_held c (rbM d) (rbR 14 k) (fun _ => rfl) squeezes_S1x32x1024_S32x1024 shapeCasts_S1x32x1024_S32x1024 (val X d k 14 (frD d c))) $$ Hh
  iintro %y %hy Hh
  iapply (wp_load_x X c (fR d k c)) $$ Hx
  iintro Hx
  ihave Hob := (Entails.of_eq (congrArg (fun v => own1 (F := F) v c) (fR_view c d k).symm)) $$ Hob
  unfold own1
  icases Hob with ⟨%w, Hob⟩
  iapply (wp_load_held c oM (fR d k c) (fun _ => rfl) squeezes_S1x32x1024_S32x1024 shapeCasts_S1x32x1024_S32x1024 w) $$ Hob
  iintro %y' - Hob
  iapply (wp_store_held c oM (fR d k c) (fun _ => rfl) squeezes_S1x32x1024_S32x1024 shapeCasts_S1x32x1024_S32x1024) $$ [Hob]
  · unfold own1; iexists w; iexact Hob
  have e : shapeCast S32x1024 (payAdd y (xM.view.readAt (Elt F) (fR d k c).toLoadRect (X c))) shapeCasts_S1x32x1024_S32x1024
      = val X d k (0 + 15) c := by
    rw [val_fin, ← hy]; exact flat_payAdd _ _
  rw [e]
  iintro Hob
  ihave Hob := (Entails.of_eq (congrArg (fun v => held v c (val X d k (0 + 15) c)) (fR_view c d k))) $$ Hob
  iapply (wp_startAG X K c d k 0 _ i hi 14 (by decide)) $$ [HO Hx HS Hob]
  · unfold Rs
    isplitl [HO Hx]
    · isplitr; · iexact Hc
      isplitl [HO]; · iexact HO
      iexact Hx
    isplitl [HS]; · iexact HS
    iexact Hob
  unfold Rs
  iintro ⟨HR, HS⟩
  rw [wp_ret]; imodintro
  iapply Hk
  isplitl [HR]; · iexact HR
  isplitl [HS]; · iexact HS
  isplitl [HL]; · iexact HL
  iexact Hh

/-- The second hop of the all-gather on a lane, which waits for the last send of the reduce-scatter. -/
theorem wp_hopAG1 (c : Dev nD) (d : Bool) (k : Fin 4) (i : ℕ) (hi : i = 8 * 16 + (2 * k.val + d.toNat)) (Q : PUnit → sProp 𝕄) :
    iprop(Rs X K c i ∗ lane X c 16 (d, k)) ⊢ iprop((Rs X K c (i + 1) ∗ lane X c 17 (d, k) -∗ Q ⟨⟩) -∗ WP c (hopAG1 c d k) Q) := by
  rw [lane_eq X c (d, k) 16 14 15 rfl rfl, lane_eq X c (d, k) 17 15 16 rfl rfl, extra_hi X c d k 16 (le_refl 16), extra_hi X c d k 17 (by decide)]
  unfold hopAG1
  simp only [Prog.lift, Prog.bind_op, Prog.bind_ret, Prog.pure_eq_ret, startAG, startTo, recvAG, sentRS, await]
  iintro ⟨HR, HS, HL, Hrb⟩ Hk
  iapply (wp_recvAG X K c d k 0 _ i (by omega)) $$ [HR HL]
  · isplitl [HR]; · iexact HR
    iexact HL
  rw [← obV_succ d k c 0 (by decide), ← val_ag X d k c (0 + 15) (by omega)]
  iintro ⟨HR, HL, Hh⟩
  iapply (wp_sentRS X K c d k 14 _ i 16 (by decide)) $$ [HR HS]
  · isplitl [HR]; · iexact HR
    iexact HS
  iintro ⟨HR, HS⟩
  iapply (wp_startAG X K c d k 1 _ i hi 15 (by decide)) $$ [HR HS Hh]
  · isplitl [HR]; · iexact HR
    isplitl [HS]; · iexact HS
    iexact Hh
  iintro ⟨HR, HS⟩
  rw [wp_ret]; imodintro
  iapply Hk
  isplitl [HR]; · iexact HR
  isplitl [HS]; · iexact HS
  isplitl [HL]; · iexact HL
  iexact Hrb

/-- Any later hop of the all-gather on a lane. -/
theorem wp_hopAG (c : Dev nD) (t : ℕ) (h : t + 2 < 15) (d : Bool) (k : Fin 4) (i : ℕ) (hi : i = 8 * (t + 17) + (2 * k.val + d.toNat)) (Q : PUnit → sProp 𝕄) :
    iprop(Rs X K c i ∗ lane X c (t + 17) (d, k)) ⊢ iprop((Rs X K c (i + 1) ∗ lane X c (t + 17 + 1) (d, k) -∗ Q ⟨⟩) -∗ WP c (hopAG c t h d k) Q) := by
  rw [lane_eq X c (d, k) (t + 17) (t + 15) (t + 1 + 15) rfl rfl, lane_eq X c (d, k) (t + 17 + 1) (t + 15 + 1) (t + 1 + 15 + 1) rfl rfl,
    extra_hi X c d k (t + 17) (by omega), extra_hi X c d k (t + 17 + 1) (by omega)]
  unfold hopAG
  simp only [Prog.lift, Prog.bind_op, Prog.bind_ret, Prog.pure_eq_ret, startAG, startTo, recvAG, sentAG, await]
  iintro ⟨HR, HS, HL, Hrb⟩ Hk
  iapply (wp_recvAG X K c d k (t + 1) _ i (by omega)) $$ [HR HL]
  · isplitl [HR]; · iexact HR
    iexact HL
  rw [← obV_succ d k c (t + 1) h, ← val_ag X d k c (t + 1 + 15) (by omega)]
  iintro ⟨HR, HL, Hh⟩
  iapply (wp_sentAG X K c d k t _ i (t + 17) (by omega)) $$ [HR HS]
  · isplitl [HR]; · iexact HR
    iexact HS
  iintro ⟨HR, HS⟩
  iapply (wp_startAG X K c d k (t + 2) _ i hi (t + 15 + 1) (by omega)) $$ [HR HS Hh]
  · isplitl [HR]; · iexact HR
    isplitl [HS]; · iexact HS
    rw [show t + 2 + 15 = t + 1 + 15 + 1 by omega]
    iexact Hh
  iintro ⟨HR, HS⟩
  rw [wp_ret]; imodintro
  iapply Hk
  isplitl [HR]; · iexact HR
  isplitl [HS]; · iexact HS
  isplitl [HL]; · iexact HL
  iexact Hrb

/-- The last waits on a lane: for its last landing and for its last two sends. -/
theorem wp_drain (c : Dev nD) (d : Bool) (k : Fin 4) (Q : PUnit → sProp 𝕄) :
    iprop(Rs X K c 240 ∗ lane X c 30 (d, k)) ⊢ iprop((Rs X K c 240 ∗ laneEnd X c (d, k) -∗ Q ⟨⟩) -∗ WP c (drain c d k) Q) := by
  rw [lane_eq X c (d, k) 30 28 29 rfl rfl, extra_hi X c d k 30 (by decide)]
  unfold drain laneEnd
  simp only [Prog.lift, Prog.bind_op, Prog.bind_ret, Prog.pure_eq_ret, recvAG, sentAG, await]
  iintro ⟨HR, HS, HL, Hrb⟩ Hk
  iapply (wp_recvAG X K c d k 14 _ 240 (by decide)) $$ [HR HL]
  · isplitl [HR]; · iexact HR
    iexact HL
  iintro ⟨HR, HL, Hh⟩
  iapply (wp_sentAG X K c d k 13 _ 240 30 (by decide)) $$ [HR HS]
  · isplitl [HR]; · iexact HR
    iexact HS
  iintro ⟨HR, HS⟩
  iapply (wp_sentAG X K c d k 14 _ 240 30 (by decide)) $$ [HR HS]
  · isplitl [HR]; · iexact HR
    iexact HS
  iintro ⟨HR, HS⟩
  rw [wp_ret]; imodintro
  iapply Hk
  isplitl [HR]; · iexact HR
  isplitl [HS]; · iexact HS
  isplitl [HL]; · iexact HL
  isplitl [Hrb]; · iexact Hrb
  iexact Hh

/-! ## A round of all lanes -/

/-- All lanes of a device in one state. -/
def lanes (Φ : Lane → sProp 𝕄) : sProp 𝕄 := bigSep Finset.univ Φ

/-- The eight lanes written out, in the order in which the body goes through them. -/
theorem lanes_eq (Φ : Lane → sProp 𝕄) : lanes Φ = iprop(Φ (false, 0) ∗ Φ (true, 0) ∗ Φ (false, 1) ∗ Φ (true, 1) ∗ Φ (false, 2) ∗ Φ (true, 2)
    ∗ Φ (false, 3) ∗ Φ (true, 3)) :=
  bigSep_univ_eq_bigSepL [(false, 0), (true, 0), (false, 1), (true, 1), (false, 2), (true, 2), (false, 3), (true, 3)] (by decide) (by decide) Φ

/-- A round: every lane does one hop, the device carrying `R` from one to the next. -/
theorem wp_eight (c : Dev nD) (f : Bool → Fin 4 → PU F) (R : ℕ → sProp 𝕄) (Φ Ψ : Lane → sProp 𝕄) (n : ℕ)
    (hf : ∀ (d : Bool) (k : Fin 4) (i : ℕ), i = n + (2 * k.val + d.toNat) → ∀ Q : PUnit → sProp 𝕄,
      iprop(R i ∗ Φ (d, k)) ⊢ iprop((R (i + 1) ∗ Ψ (d, k) -∗ Q ⟨⟩) -∗ WP c (f d k) Q)) (Q : PUnit → sProp 𝕄) :
    iprop(R n ∗ lanes Φ) ⊢ iprop((R (n + 8) ∗ lanes Ψ -∗ Q ⟨⟩) -∗ WP c (eight f) Q) := by
  rw [lanes_eq, lanes_eq]
  unfold eight
  simp only [wp_bind]
  iintro ⟨HR, H0, H1, H2, H3, H4, H5, H6, H7⟩ Hk
  iapply (hf false 0 n rfl) $$ [HR H0]
  · isplitl [HR]; · iexact HR
    iexact H0
  iintro ⟨HR, H0⟩
  iapply (hf true 0 (n + 1) rfl) $$ [HR H1]
  · isplitl [HR]; · iexact HR
    iexact H1
  iintro ⟨HR, H1⟩
  iapply (hf false 1 (n + 1 + 1) rfl) $$ [HR H2]
  · isplitl [HR]; · iexact HR
    iexact H2
  iintro ⟨HR, H2⟩
  iapply (hf true 1 (n + 1 + 1 + 1) rfl) $$ [HR H3]
  · isplitl [HR]; · iexact HR
    iexact H3
  iintro ⟨HR, H3⟩
  iapply (hf false 2 (n + 1 + 1 + 1 + 1) rfl) $$ [HR H4]
  · isplitl [HR]; · iexact HR
    iexact H4
  iintro ⟨HR, H4⟩
  iapply (hf true 2 (n + 1 + 1 + 1 + 1 + 1) rfl) $$ [HR H5]
  · isplitl [HR]; · iexact HR
    iexact H5
  iintro ⟨HR, H5⟩
  iapply (hf false 3 (n + 1 + 1 + 1 + 1 + 1 + 1) rfl) $$ [HR H6]
  · isplitl [HR]; · iexact HR
    iexact H6
  iintro ⟨HR, H6⟩
  iapply (hf true 3 (n + 1 + 1 + 1 + 1 + 1 + 1 + 1) rfl) $$ [HR H7]
  · isplitl [HR]; · iexact HR
    iexact H7
  iintro ⟨HR, H7⟩
  iapply Hk
  isplitl [HR]; · iexact HR
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- All lanes of device `c` with `j` hops done, and what the device carries. -/
abbrev St (c : Dev nD) (j : ℕ) : sProp 𝕄 := iprop(Rs X K c (8 * j) ∗ lanes (lane X c j))

/-- The remaining hops of the reduce-scatter, on all lanes. -/
theorem wp_loopRS (c : Dev nD) (n : ℕ) : ∀ (s : ℕ) (h : s + n = 13) (Q : PUnit → sProp 𝕄),
    St X K c (s + 2) ⊢ iprop((St X K c 15 -∗ Q ⟨⟩) -∗ WP c (loopRS c n s h) Q) := by
  induction n with
  | zero =>
    intro s h Q
    obtain rfl : s = 13 := h
    unfold loopRS WP
    iintro H Hk
    rw [Prog.pure_eq_ret, wp_ret]; imodintro
    iapply Hk; iexact H
  | succ n ih =>
    intro s h Q
    unfold loopRS WP
    rw [wp_bind]
    iintro H Hk
    iapply (wp_eight c (hopRS c s _) (Rs X K c) (lane X c (s + 2)) (lane X c (s + 2 + 1)) (8 * (s + 2))
      (fun d k i hi Q => wp_hopRS X K c s _ d k i hi Q)) $$ H
    iintro H
    iapply (ih (s + 1) _) $$ [H]
    · iexact H
    iexact Hk

/-- The remaining hops of the all-gather, on all lanes. -/
theorem wp_loopAG (c : Dev nD) (n : ℕ) : ∀ (t : ℕ) (h : t + n = 13) (Q : PUnit → sProp 𝕄),
    St X K c (t + 17) ⊢ iprop((St X K c 30 -∗ Q ⟨⟩) -∗ WP c (loopAG c n t h) Q) := by
  induction n with
  | zero =>
    intro t h Q
    obtain rfl : t = 13 := h
    unfold loopAG WP
    iintro H Hk
    rw [Prog.pure_eq_ret, wp_ret]; imodintro
    iapply Hk; iexact H
  | succ n ih =>
    intro t h Q
    unfold loopAG WP
    rw [wp_bind]
    iintro H Hk
    iapply (wp_eight c (hopAG c t _) (Rs X K c) (lane X c (t + 17)) (lane X c (t + 17 + 1)) (8 * (t + 17))
      (fun d k i hi Q => wp_hopAG X K c t _ d k i hi Q)) $$ H
    iintro H
    iapply (ih (t + 1) _) $$ [H]
    · rw [show t + 1 + 17 = t + 17 + 1 by omega]; iexact H
    iexact Hk

/-- The kernel past its entry, from every lane at its start to every lane at its end. -/
theorem wp_hops (c : Dev nD) (Q : PUnit → sProp 𝕄) :
    St X K c 0 ⊢ iprop((Rs X K c 240 ∗ lanes (laneEnd X c) -∗ Q ⟨⟩) -∗ WP c (hops c) Q) := by
  unfold hops
  simp only [wp_bind]
  iintro H Hk
  iapply (wp_eight c (hop0 c) (Rs X K c) (lane X c 0) (lane X c 1) (8 * 0) (fun d k i hi Q => wp_hop0 X K c d k i hi Q)) $$ H
  iintro H
  iapply (wp_eight c (hop1 c) (Rs X K c) (lane X c 1) (lane X c 2) (8 * 1) (fun d k i hi Q => wp_hop1 X K c d k i hi Q)) $$ H
  iintro H
  iapply (wp_loopRS X K c 13 0 rfl) $$ [H]
  · iexact H
  iintro H
  iapply (wp_eight c (hopFin c) (Rs X K c) (lane X c 15) (lane X c 16) (8 * 15) (fun d k i hi Q => wp_hopFin X K c d k i hi Q)) $$ H
  iintro H
  iapply (wp_eight c (hopAG1 c) (Rs X K c) (lane X c 16) (lane X c 17) (8 * 16) (fun d k i hi Q => wp_hopAG1 X K c d k i hi Q)) $$ H
  iintro H
  iapply (wp_loopAG X K c 13 0 rfl) $$ [H]
  · iexact H
  unfold St
  rw [lanes_eq, lanes_eq]
  iintro ⟨HR, H0, H1, H2, H3, H4, H5, H6, H7⟩
  iapply (wp_drain X K c false 0) $$ [HR H0]
  · isplitl [HR]; · iexact HR
    iexact H0
  iintro ⟨HR, H0⟩
  iapply (wp_drain X K c false 1) $$ [HR H2]
  · isplitl [HR]; · iexact HR
    iexact H2
  iintro ⟨HR, H2⟩
  iapply (wp_drain X K c false 2) $$ [HR H4]
  · isplitl [HR]; · iexact HR
    iexact H4
  iintro ⟨HR, H4⟩
  iapply (wp_drain X K c false 3) $$ [HR H6]
  · isplitl [HR]; · iexact HR
    iexact H6
  iintro ⟨HR, H6⟩
  iapply (wp_drain X K c true 0) $$ [HR H1]
  · isplitl [HR]; · iexact HR
    iexact H1
  iintro ⟨HR, H1⟩
  iapply (wp_drain X K c true 1) $$ [HR H3]
  · isplitl [HR]; · iexact HR
    iexact H3
  iintro ⟨HR, H3⟩
  iapply (wp_drain X K c true 2) $$ [HR H5]
  · isplitl [HR]; · iexact HR
    iexact H5
  iintro ⟨HR, H5⟩
  iapply (wp_drain X K c true 3) $$ [HR H7]
  · isplitl [HR]; · iexact HR
    iexact H7
  iintro ⟨HR, H7⟩
  iapply Hk
  isplitl [HR]; · iexact HR
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.KernelIdealRing
end
-- ==== Proof.KernelIdealPieces.lean ====
module

public import proofs.«01_k».proof.Proof.KernelIdealHopTriples
public import Idealize.ShloMosaic.Lib.ValueLayout
public import Idealize.ShloMosaic.Lib.Pipeline.ValueKit.Geometry

@[expose] public section

noncomputable section

namespace Cert.KernelIdealRing

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A buffer and its pieces -/

section Cut
variable {T : Type} [Fintype T] [DecidableEq T] (ℓ : Loc nD τ sig) (S : T → Finset (Idx ℓ))

/-- Sets that cover every index have everything as their union. -/
theorem cover_univ (hc : ∀ i, ∃ t, i ∈ S t) : Finset.univ.biUnion S = Finset.univ :=
  Finset.eq_univ_iff_forall.mpr fun i => by obtain ⟨t, ht⟩ := hc i; exact Finset.mem_biUnion.mpr ⟨t, Finset.mem_univ _, ht⟩

/-- A whole buffer is its pieces, each at the buffer's contents. -/
theorem pts_cut (hc : ∀ i, ∃ t, i ∈ S t) (hd : ∀ t t', t ≠ t' → Disjoint (S t) (S t')) (f : Buf (Elt F) ℓ) :
    (ℓ ↦{fullShare} f : sProp 𝕄) = bigSep Finset.univ fun t => ℓ ↦[S t]{fullShare} f := by
  rw [← pointsTo_biUnion Finset.univ S fun t _ t' _ h => hd t t' h, cover_univ ℓ S hc]

/-- Pieces each at some contents are a whole buffer at some contents. -/
theorem pts_join (hc : ∀ i, ∃ t, i ∈ S t) (hd : ∀ t t', t ≠ t' → Disjoint (S t) (S t')) (f₀ : Buf (Elt F) ℓ) :
    (bigSep Finset.univ fun t => iprop(∃ f : Buf (Elt F) ℓ, ℓ ↦[S t]{fullShare} f) : sProp 𝕄) ⊢ iprop(∃ f : Buf (Elt F) ℓ, ℓ ↦{fullShare} f) := by
  iintro H
  ihave H := (BI.bigSep_exists_pi Finset.univ (fun t (f : Buf (Elt F) ℓ) => (ℓ ↦[S t]{fullShare} f : sProp 𝕄))) $$ H
  icases H with ⟨%fs, H⟩
  ihave H := (pointsTo_biUnion_join Finset.univ S fs f₀ fun t _ t' _ h => hd t t' h) $$ H
  rw [cover_univ ℓ S hc]
  icases H with ⟨%g, -, H⟩
  iexists g; iexact H
end Cut

/-- A piece with any contents is owned. -/
theorem own1_intro (v : Memref sig .tc .vmem S32x1024 .bf16) (c : Dev nD) (f : Buf (Elt F) (v.view.loc (c : Thread nD τ))) :
    (v.view.loc (c : Thread nD τ) ↦[v.view.set]{fullShare} f : sProp 𝕄) ⊢ own1 v c := by
  unfold own1 held
  iintro H; iexists (v.view.read (Elt F) f), f; isplitr; · ipureintro; rfl
  iexact H
/-- A piece with known contents is owned. -/
theorem held_own1 (v : Memref sig .tc .vmem S32x1024 .bf16) (c : Dev nD) (w : Vec F S32x1024 .bf16) : held v c w ⊢ own1 v c := by
  unfold own1; iintro H; iexists w; iexact H
/-- An owned piece has some contents. -/
theorem own1_elim (v : Memref sig .tc .vmem S32x1024 .bf16) (c : Dev nD) :
    (own1 v c : sProp 𝕄) ⊢ iprop(∃ f : Buf (Elt F) (v.view.loc (c : Thread nD τ)), v.view.loc (c : Thread nD τ) ↦[v.view.set]{fullShare} f) := by
  unfold own1 held
  iintro ⟨%w, %f, -, H⟩; iexists f; iexact H
/-- A view that reads what some contents read there is the piece at those contents. -/
theorem held_at (v : Memref sig .tc .vmem S32x1024 .bf16) (c : Dev nD) (g : Buf (Elt F) (v.view.loc (c : Thread nD τ))) :
    held v c (v.view.read (Elt F) g) ⊢ (v.view.loc (c : Thread nD τ) ↦[v.view.set]{fullShare} g : sProp 𝕄) := by
  unfold held
  iintro ⟨%f, %hf, H⟩
  have e : ∀ i ∈ v.view.set, f i = g i := fun i hi => by
    obtain ⟨x, -, rfl⟩ := Finset.mem_map.mp hi
    have := congrFun hf x
    rw [View.read_apply, View.read_apply] at this
    exact (cast_inj _).mp this
  ihave H := (Entails.of_eq (pointsTo_congr (q := fullShare) e)) $$ H
  iexact H

/-! ## The buffers' pieces -/

/-- The indices of a piece of the send buffer. -/
theorem mem_sb (k : Fin 4) (i : S128x1024.Idx) : i ∈ (sbR k).set ↔ (i 0).val / 32 = k.val := by
  have h1 : (i 1).val < 1024 := (i 1).isLt
  rw [Rect.mem_set_unit]
  constructor
  · intro h; have h0 := h 0
    have e1 : 32 * k.val ≤ (i 0).val ∧ (i 0).val < 32 * k.val + 32 := h0
    omega
  · intro h a
    fin_cases a
    · show 32 * k.val ≤ (i 0).val ∧ (i 0).val < 32 * k.val + 32; omega
    · show 0 ≤ (i 1).val ∧ (i 1).val < 0 + 1024; omega

/-- The indices of a piece of the receive buffer. -/
theorem mem_rb (s : Fin 15) (k : Fin 4) (i : S15x128x1024.Idx) : i ∈ (rbR s k).set ↔ (i 0).val = s.val ∧ (i 1).val / 32 = k.val := by
  have h2 : (i 2).val < 1024 := (i 2).isLt
  rw [Rect.mem_set_unit]
  constructor
  · intro h
    have e0 : s.val ≤ (i 0).val ∧ (i 0).val < s.val + 1 := h 0
    have e1 : 32 * k.val ≤ (i 1).val ∧ (i 1).val < 32 * k.val + 32 := h 1
    omega
  · intro h a
    fin_cases a
    · show s.val ≤ (i 0).val ∧ (i 0).val < s.val + 1; omega
    · show 32 * k.val ≤ (i 1).val ∧ (i 1).val < 32 * k.val + 32; omega
    · show 0 ≤ (i 2).val ∧ (i 2).val < 0 + 1024; omega

/-- The pieces cover the send buffer. -/
theorem sb_cover (i : S128x1024.Idx) : ∃ k, i ∈ (sbR k).set := by
  have h : (i 0).val < 128 := (i 0).isLt
  exact ⟨⟨(i 0).val / 32, by omega⟩, (mem_sb _ i).mpr rfl⟩
/-- The pieces of the send buffer are disjoint. -/
theorem sb_disj (k k' : Fin 4) (h : k ≠ k') : Disjoint (sbR k).set (sbR k').set :=
  Finset.disjoint_left.mpr fun i hi hi' => h (Fin.ext (((mem_sb k i).mp hi).symm.trans ((mem_sb k' i).mp hi')))
/-- The pieces cover the receive buffer. -/
theorem rb_cover (i : S15x128x1024.Idx) : ∃ sk : Fin 15 × Fin 4, i ∈ (rbR sk.1 sk.2).set := by
  have h : (i 1).val < 128 := (i 1).isLt
  exact ⟨(⟨(i 0).val, (i 0).isLt⟩, ⟨(i 1).val / 32, by omega⟩), (mem_rb _ _ i).mpr ⟨rfl, rfl⟩⟩
/-- The pieces of the receive buffer are disjoint. -/
theorem rb_disj (t t' : Fin 15 × Fin 4) (h : t ≠ t') : Disjoint (rbR t.1 t.2).set (rbR t'.1 t'.2).set :=
  Finset.disjoint_left.mpr fun i hi hi' => by
    have h1 := (mem_rb _ _ i).mp hi
    have h2 := (mem_rb _ _ i).mp hi'
    exact h (Prod.ext (Fin.ext (h1.1.symm.trans h2.1)) (Fin.ext (h1.2.symm.trans h2.2)))

/-- The buffer a device sends its own pieces from, in direction `d`, -/
abbrev sbRef (d : Bool) : Ref sig .tc := bif d then cc0_scratch1 else cc0_scratch0
/-- and the one the first half lands in. -/
abbrev rbRef (d : Bool) : Ref sig .tc := bif d then cc0_scratch3 else cc0_scratch2

/-- A buffer at some contents. -/
def someAt (b : Ref sig .tc) (c : Dev nD) : sProp 𝕄 := iprop(∃ f : Buf (Elt F) ((c : Thread nD τ).loc b), (c : Thread nD τ).loc b ↦{fullShare} f)

section Whole
variable {T : Type} [Fintype T] [DecidableEq T] (b : Ref sig .tc) (c : Dev nD) (S : T → Finset (Idx ((c : Thread nD τ).loc b)))
  (v : T → Memref sig .tc .vmem S32x1024 .bf16)

/-- A buffer is split into disjoint pieces that cover it. -/
theorem own_split (hc : ∀ i, ∃ t, i ∈ S t) (hd : ∀ t t', t ≠ t' → Disjoint (S t) (S t'))
    (h : ∀ t (f : Buf (Elt F) ((c : Thread nD τ).loc b)), ((c : Thread nD τ).loc b ↦[S t]{fullShare} f : sProp 𝕄) ⊢ own1 (v t) c) :
    someAt (F := F) b c ⊢ bigSep Finset.univ fun t => own1 (v t) c :=
  exists_elim fun f => (Entails.of_eq (pts_cut _ S hc hd f)).trans (bigSep_mono fun t _ => h t f)

/-- Disjoint pieces that cover a buffer are joined into it. -/
theorem own_join (hc : ∀ i, ∃ t, i ∈ S t) (hd : ∀ t t', t ≠ t' → Disjoint (S t) (S t')) (f₀ : Buf (Elt F) ((c : Thread nD τ).loc b))
    (h : ∀ t, own1 (v t) c ⊢ (iprop(∃ f : Buf (Elt F) ((c : Thread nD τ).loc b), (c : Thread nD τ).loc b ↦[S t]{fullShare} f) : sProp 𝕄)) :
    (bigSep Finset.univ fun t => own1 (F := F) (v t) c) ⊢ someAt b c :=
  (bigSep_mono fun t _ => h t).trans (pts_join _ S hc hd f₀)
end Whole

/-- The send buffer, split into its pieces. -/
theorem sb_split (d : Bool) (c : Dev nD) : someAt (F := F) (sbRef d) c ⊢ bigSep Finset.univ fun k => own1 (sbV d k) c := by
  cases d
  · refine own_split cc0_scratch0 c (fun k => (sbR k).set) (sbV false) sb_cover sb_disj fun k f => ?_
    have h := own1_intro (sbV false k) c f
    rwa [show (sbV false k).view.set = (sbR k).set from View.set_slice_whole _ _] at h
  · refine own_split cc0_scratch1 c (fun k => (sbR k).set) (sbV true) sb_cover sb_disj fun k f => ?_
    have h := own1_intro (sbV true k) c f
    rwa [show (sbV true k).view.set = (sbR k).set from View.set_slice_whole _ _] at h

/-- The send buffer, joined from its pieces. -/
theorem sb_join (d : Bool) (c : Dev nD) (f₀ : ∀ b : Ref sig .tc, Buf (Elt F) ((c : Thread nD τ).loc b)) :
    (bigSep Finset.univ fun k => own1 (F := F) (sbV d k) c) ⊢ someAt (sbRef d) c := by
  cases d
  · refine own_join cc0_scratch0 c (fun k => (sbR k).set) (sbV false) sb_cover sb_disj (f₀ _) fun k => ?_
    have h := own1_elim (F := F) (sbV false k) c
    rwa [show (sbV false k).view.set = (sbR k).set from View.set_slice_whole _ _] at h
  · refine own_join cc0_scratch1 c (fun k => (sbR k).set) (sbV true) sb_cover sb_disj (f₀ _) fun k => ?_
    have h := own1_elim (F := F) (sbV true k) c
    rwa [show (sbV true k).view.set = (sbR k).set from View.set_slice_whole _ _] at h

/-- The receive buffer, split into its pieces. -/
theorem rb_split (d : Bool) (c : Dev nD) : someAt (F := F) (rbRef d) c ⊢ bigSep Finset.univ fun sk : Fin 15 × Fin 4 => own1 (rbV d sk.1 sk.2) c := by
  cases d
  · refine own_split cc0_scratch2 c (fun sk : Fin 15 × Fin 4 => (rbR sk.1 sk.2).set) (fun sk => rbV false sk.1 sk.2) rb_cover rb_disj fun sk f => ?_
    have h := own1_intro (rbV false sk.1 sk.2) c f
    rwa [show (rbV false sk.1 sk.2).view.set = (rbR sk.1 sk.2).set from (View.set_reshape _ _).trans (View.set_slice_whole _ _)] at h
  · refine own_split cc0_scratch3 c (fun sk : Fin 15 × Fin 4 => (rbR sk.1 sk.2).set) (fun sk => rbV true sk.1 sk.2) rb_cover rb_disj fun sk f => ?_
    have h := own1_intro (rbV true sk.1 sk.2) c f
    rwa [show (rbV true sk.1 sk.2).view.set = (rbR sk.1 sk.2).set from (View.set_reshape _ _).trans (View.set_slice_whole _ _)] at h

/-- The receive buffer, joined from its pieces. -/
theorem rb_join (d : Bool) (c : Dev nD) (f₀ : ∀ b : Ref sig .tc, Buf (Elt F) ((c : Thread nD τ).loc b)) :
    (bigSep Finset.univ fun sk : Fin 15 × Fin 4 => own1 (F := F) (rbV d sk.1 sk.2) c) ⊢ someAt (rbRef d) c := by
  cases d
  · refine own_join cc0_scratch2 c (fun sk : Fin 15 × Fin 4 => (rbR sk.1 sk.2).set) (fun sk => rbV false sk.1 sk.2) rb_cover rb_disj (f₀ _) fun sk => ?_
    have h := own1_elim (F := F) (rbV false sk.1 sk.2) c
    rwa [show (rbV false sk.1 sk.2).view.set = (rbR sk.1 sk.2).set from (View.set_reshape _ _).trans (View.set_slice_whole _ _)] at h
  · refine own_join cc0_scratch3 c (fun sk : Fin 15 × Fin 4 => (rbR sk.1 sk.2).set) (fun sk => rbV true sk.1 sk.2) rb_cover rb_disj (f₀ _) fun sk => ?_
    have h := own1_elim (F := F) (rbV true sk.1 sk.2) c
    rwa [show (rbV true sk.1 sk.2).view.set = (rbR sk.1 sk.2).set from (View.set_reshape _ _).trans (View.set_slice_whole _ _)] at h

/-! ## The result's pieces -/

/-- A piece of a block lies in the result. -/
theorem p_inb (b : Fin 32) (k : Fin 4) : ∀ a, (![b.val, 32 * k.val, 0] : Fin 3 → Nat) a + S1x32x1024.size a ≤ S32x128x1024.size a := by
  revert b k; decide
/-- Piece `k` of block `b` of the result. -/
abbrev pR (b : Fin 32) (k : Fin 4) : Rect S32x128x1024 := Rect.unit (s := S32x128x1024) ![b.val, 32 * k.val, 0] S1x32x1024.size (p_inb b k)
/-- Piece `k` of block `b` of the result. -/
abbrev pV (b : Fin 32) (k : Fin 4) : Memref sig .tc .vmem S32x1024 .bf16 :=
  (oM.slice (pR b k) (fun _ => rfl)).squeeze S32x1024 squeezes_S1x32x1024_S32x1024

/-- The indices of a piece of the result. -/
theorem mem_p (b : Fin 32) (k : Fin 4) (i : S32x128x1024.Idx) : i ∈ (pR b k).set ↔ (i 0).val = b.val ∧ (i 1).val / 32 = k.val := by
  have h2 : (i 2).val < 1024 := (i 2).isLt
  rw [Rect.mem_set_unit]
  constructor
  · intro h
    have e0 : b.val ≤ (i 0).val ∧ (i 0).val < b.val + 1 := h 0
    have e1 : 32 * k.val ≤ (i 1).val ∧ (i 1).val < 32 * k.val + 32 := h 1
    omega
  · intro h a
    fin_cases a
    · show b.val ≤ (i 0).val ∧ (i 0).val < b.val + 1; omega
    · show 32 * k.val ≤ (i 1).val ∧ (i 1).val < 32 * k.val + 32; omega
    · show 0 ≤ (i 2).val ∧ (i 2).val < 0 + 1024; omega

/-- A piece's view has the piece's indices. -/
theorem p_view_set (b : Fin 32) (k : Fin 4) : (pV b k).view.set = (pR b k).set := (View.set_reshape _ _).trans (View.set_slice_whole _ _)

/-- The block of the result that device `c` holds `j`-th in direction `d`: first the one it finishes itself, then those it
    receives. -/
def blk (d : Bool) (c : Dev nD) (j : Fin 16) : Fin 32 :=
  bif d then ⟨(c.val + 15 + j.val) % 16 + 16, by omega⟩ else ⟨(c.val + 33 - j.val) % 16, by omega⟩

/-- Every block travels on some direction. -/
theorem blk_surj (c : Dev nD) (b : Fin 32) : ∃ dj : Bool × Fin 16, blk dj.1 c dj.2 = b := by
  have hc : c.val < 16 := c.isLt
  have hb := b.isLt
  by_cases h : b.val < 16
  · refine ⟨(false, ⟨(c.val + 33 - b.val) % 16, Nat.mod_lt _ (by decide)⟩), Fin.ext ?_⟩
    show (c.val + 33 - (c.val + 33 - b.val) % 16) % 16 = b.val
    omega
  · refine ⟨(true, ⟨(b.val + 17 - c.val) % 16, Nat.mod_lt _ (by decide)⟩), Fin.ext ?_⟩
    show (c.val + 15 + (b.val + 17 - c.val) % 16) % 16 + 16 = b.val
    omega

/-- No block travels twice. -/
theorem blk_inj (c : Dev nD) {d d' : Bool} {j j' : Fin 16} (h : blk d c j = blk d' c j') : d = d' ∧ j = j' := by
  have hc := c.isLt
  have hj := j.isLt
  have hj' := j'.isLt
  have hv := congrArg Fin.val h
  cases d <;> cases d' <;> simp only [blk, cond_true, cond_false] at hv
  · exact ⟨rfl, Fin.ext (by omega)⟩
  · omega
  · omega
  · exact ⟨rfl, Fin.ext (by omega)⟩

/-- The pieces of the result: direction, place on the ring, piece of the block. -/
abbrev PC : Type := Bool × Fin 16 × Fin 4

/-- The pieces cover the result. -/
theorem p_cover (c : Dev nD) (i : S32x128x1024.Idx) : ∃ t : PC, i ∈ (pR (blk t.1 c t.2.1) t.2.2).set := by
  have h : (i 1).val < 128 := (i 1).isLt
  obtain ⟨dj, e⟩ := blk_surj c ⟨(i 0).val, (i 0).isLt⟩
  exact ⟨(dj.1, dj.2, ⟨(i 1).val / 32, by omega⟩), (mem_p _ _ i).mpr ⟨by rw [e], rfl⟩⟩
/-- The pieces of the result are disjoint. -/
theorem p_disj (c : Dev nD) (t t' : PC) (h : t ≠ t') : Disjoint (pR (blk t.1 c t.2.1) t.2.2).set (pR (blk t'.1 c t'.2.1) t'.2.2).set :=
  Finset.disjoint_left.mpr fun i hi hi' => by
    have h1 := (mem_p _ _ i).mp hi
    have h2 := (mem_p _ _ i).mp hi'
    obtain ⟨e1, e2⟩ := blk_inj c (Fin.ext (h1.1.symm.trans h2.1))
    exact h (Prod.ext e1 (Prod.ext e2 (Fin.ext (h1.2.symm.trans h2.2))))

/-- The result, split into its pieces. -/
theorem out_split (c : Dev nD) : someAt (F := F) cc0_stg1_0 c ⊢ bigSep Finset.univ fun t : PC => own1 (pV (blk t.1 c t.2.1) t.2.2) c := by
  refine own_split cc0_stg1_0 c (fun t : PC => (pR (blk t.1 c t.2.1) t.2.2).set) (fun t => pV (blk t.1 c t.2.1) t.2.2) (p_cover c) (p_disj c) fun t f => ?_
  have h := own1_intro (pV (blk t.1 c t.2.1) t.2.2) c f
  rwa [p_view_set] at h

variable (X : Xs F)

/-- The direction that finishes block `b`, -/
def dirOf (b : Fin 32) : Bool := decide (16 ≤ b.val)
/-- and the device that does. -/
def origin (b : Fin 32) : Dev nD := if b.val < 16 then ⟨(b.val + 15) % 16, Nat.mod_lt _ (by decide)⟩ else ⟨(b.val + 1) % 16, Nat.mod_lt _ (by decide)⟩

/-- Piece `k` of block `b` of the result. -/
def resV (b : Fin 32) (k : Fin 4) : FVec F S32x1024 .bf16 := val X (dirOf b) k 15 (origin b)

open Idealize.ShloMosaic.ValueIdx in
/-- The result, the same on every device. -/
def outF : (cc0_stg1_0 : Ref sig .tc).ty.Contents (Elt F) := fun (i : S32x128x1024.Idx) =>
  resV X ⟨(i 0).val, (i 0).isLt⟩ ⟨(i 1).val / 32, by have : (i 1).val < 128 := (i 1).isLt; omega⟩
    (ix2 (⟨(i 1).val % 32, Nat.mod_lt _ (by decide)⟩ : Fin 32) (⟨(i 2).val, (i 2).isLt⟩ : Fin 1024))

/-- The direction in which a block travels. -/
theorem dirOf_blk (d : Bool) (c : Dev nD) (j : Fin 16) : dirOf (blk d c j) = d := by
  cases d
  · exact decide_eq_false (by show ¬ 16 ≤ (c.val + 33 - j.val) % 16; omega)
  · exact decide_eq_true (by show 16 ≤ (c.val + 15 + j.val) % 16 + 16; omega)
/-- The device at which a block's sum is finished. -/
theorem origin_blk (d : Bool) (c : Dev nD) : origin (blk d c 0) = c := by revert d c; decide
/-- The block a device sends at a hop is the one its sender sent at the hop before. -/
theorem blk_succ (d : Bool) (c : Dev nD) (j : ℕ) (h : j + 1 < 16) : blk d c ⟨j + 1, h⟩ = blk d (frD d c) ⟨j, by omega⟩ := by
  have hc := c.isLt
  cases d <;> (apply Fin.ext; simp only [blk, frD, toD, cond_true, cond_false, Bool.not_true, Bool.not_false]; omega)

/-- What device `c` ends with in the block it holds `j`-th. -/
theorem val_blk (d : Bool) (k : Fin 4) : ∀ (j : ℕ) (h : j < 16) (c : Dev nD), val X d k (j + 15) c = resV X (blk d c ⟨j, h⟩) k
  | 0, _, c => by
    unfold resV
    rw [show (⟨0, by decide⟩ : Fin 16) = 0 from rfl, dirOf_blk, origin_blk]
  | j + 1, h, c => by
    rw [show j + 1 + 15 = j + 15 + 1 by omega, val_ag X d k c (j + 15) (by omega), val_blk d k j (by omega), blk_succ]

/-- The rows that a hop of the all-gather sends are a piece of the result. -/
theorem obV_pV (d : Bool) (k : Fin 4) (c : Dev nD) (t : Fin 15) : obV d k c t = pV (blk d c ⟨t.val, by omega⟩) k :=
  ob_congr ((gOff_eq d k c t).trans (by cases d <;> rfl)) _ _
/-- The rows that a hop of the all-gather brings are a piece of the result. -/
theorem obV_fr (d : Bool) (k : Fin 4) (c : Dev nD) (t : Fin 15) : obV d k (frD d c) t = pV (blk d c ⟨t.val + 1, by omega⟩) k := by
  rw [obV_pV, blk_succ]

open Idealize.ShloMosaic.ValueIdx in
/-- The result at equal coordinates. -/
theorem resV_congr {b b' : Fin 32} {k k' : Fin 4} {r r' : Fin 32} {q q' : Fin 1024} (hb : b = b') (hk : k = k') (hr : r = r') (hq : q = q') :
    resV X b k (ix2 r q) = resV X b' k' (ix2 r' q') := by
  subst hb hk hr hq; rfl

open Idealize.ShloMosaic.ValueIdx in
/-- A piece of the result array holds the piece's sum. -/
theorem out_read (b : Fin 32) (k : Fin 4) : (pV b k).view.read (Elt F) (outF X) = resV X b k := by
  refine (show _ = (shapeCast S32x1024 (fun y : S1x32x1024.Idx => outF X ((pR b k).emb y)) shapeCasts_S1x32x1024_S32x1024 : FVec F S32x1024 .bf16) from rfl).trans ?_
  funext x
  obtain ⟨r, q, rfl⟩ : ∃ (r : Fin 32) (q : Fin 1024), x = ix2 r q := ⟨x 0, x 1, eq_ix2 x⟩
  rw [shapeCast_1ab_ab_apply]
  have h0 : (((pR b k).emb (ix3 (0 : Fin 1) r q : S1x32x1024.Idx) : S32x128x1024.Idx) 0).val = b.val := (ValueKit.rect_emb_unit_val _ _ _ _ 0).trans rfl
  have h1 : (((pR b k).emb (ix3 (0 : Fin 1) r q : S1x32x1024.Idx) : S32x128x1024.Idx) 1).val = 32 * k.val + r.val := (ValueKit.rect_emb_unit_val _ _ _ _ 1).trans rfl
  have h2 : (((pR b k).emb (ix3 (0 : Fin 1) r q : S1x32x1024.Idx) : S32x128x1024.Idx) 2).val = q.val := (ValueKit.rect_emb_unit_val _ _ _ _ 2).trans (Nat.zero_add _)
  have hr := r.isLt
  exact resV_congr X (Fin.ext h0) (Fin.ext (by show _ / 32 = k.val; rw [h1]; omega)) (Fin.ext (by show _ % 32 = r.val; rw [h1]; omega)) (Fin.ext h2)

/-- The pieces, each with its sum, are joined into the result array. -/
theorem out_join (c : Dev nD) : (bigSep Finset.univ fun t : PC => held (pV (blk t.1 c t.2.1) t.2.2) c (resV X (blk t.1 c t.2.1) t.2.2) : sProp 𝕄)
    ⊢ ((c : Thread nD τ).loc cc0_stg1_0 ↦{fullShare} outF X) := by
  refine (bigSep_mono (Ψ := fun t : PC => ((c : Thread nD τ).loc cc0_stg1_0 ↦[(pR (blk t.1 c t.2.1) t.2.2).set]{fullShare} outF X)) fun t _ => ?_).trans
    (Entails.of_eq (pts_cut ((c : Thread nD τ).loc cc0_stg1_0) (fun t : PC => (pR (blk t.1 c t.2.1) t.2.2).set) (p_cover c) (p_disj c) (outF X)).symm)
  have h := held_at (pV (blk t.1 c t.2.1) t.2.2) c (outF X)
  rw [out_read] at h
  rwa [p_view_set] at h

/-! ## Runs of pieces -/

/-- A family over `m + n` is one over `m` and one over `n`. -/
theorem bigSep_add (m n : ℕ) (Φ : Fin (m + n) → sProp 𝕄) :
    bigSep Finset.univ Φ = iprop((bigSep Finset.univ fun i : Fin m => Φ (i.castAdd n)) ∗ bigSep Finset.univ fun i : Fin n => Φ (i.natAdd m)) := by
  rw [bigSep_univ_equiv finSumFinEquiv Φ, bigSep_univ_sum]; rfl

/-- A family over the hops is one over the reduce-scatter and one over the all-gather. -/
theorem bigSep_30 (Φ : Fin 30 → sProp 𝕄) :
    bigSep Finset.univ Φ = iprop((bigSep Finset.univ fun i : Fin 15 => Φ ⟨i.val, by omega⟩) ∗ bigSep Finset.univ fun i : Fin 15 => Φ ⟨i.val + 15, by omega⟩) := by
  rw [bigSep_add 15 15 Φ]
  congr 1
/-- A family, its first member taken out. -/
theorem bigSep_hd (n : ℕ) (Φ : Fin (n + 1) → sProp 𝕄) :
    bigSep Finset.univ Φ = iprop(Φ ⟨0, by omega⟩ ∗ bigSep Finset.univ fun i : Fin n => Φ ⟨i.val + 1, by omega⟩) := by
  rw [bigSep_univ_equiv (finCongr (Nat.add_comm 1 n)) Φ, bigSep_add 1 n, bigSep_univ_of_subsingleton (0 : Fin 1)]
  congr 1
  exact bigSep_congr fun i _ => congrArg Φ (Fin.ext (Nat.add_comm 1 i.val))
/-- A family, its last member taken out. -/
theorem bigSep_tl (n : ℕ) (Φ : Fin (n + 1) → sProp 𝕄) :
    bigSep Finset.univ Φ = iprop((bigSep Finset.univ fun i : Fin n => Φ ⟨i.val, by omega⟩) ∗ Φ ⟨n, by omega⟩) := by
  rw [bigSep_add n 1, bigSep_univ_of_subsingleton (0 : Fin 1)]; rfl

/-! ## Entry and exit -/

/-- One direction's part of the result's buffer. -/
def outHalf (d : Bool) (c : Dev nD) : sProp 𝕄 := bigSep Finset.univ fun jk : Fin 16 × Fin 4 => own1 (F := F) (pV (blk d c jk.1) jk.2) c

/-- A family over the two directions. -/
theorem bigSep_bool (Φ : Bool → sProp 𝕄) : bigSep Finset.univ Φ = iprop(Φ false ∗ Φ true) :=
  bigSep_univ_eq_bigSepL [false, true] (by decide) (by decide) Φ

/-- The result, split into the two directions' halves. -/
theorem out_halves (c : Dev nD) : someAt (F := F) cc0_stg1_0 c ⊢ iprop(outHalf false c ∗ outHalf true c) :=
  (out_split c).trans (Entails.of_eq (by rw [bigSep_univ_prod, bigSep_bool]; rfl))

/-- What the device before (in direction `d`) will write, and what is left of the result. -/
theorem entry_half (d : Bool) (c : Dev nD) :
    iprop(someAt (F := F) (rbRef d) c ∗ outHalf d c) ⊢ iprop(barPay d (frD d c) ∗ bigSep Finset.univ fun k => own1 (obV d k c 0) c) := by
  have e : iprop((bigSep Finset.univ fun sk : Fin 15 × Fin 4 => own1 (F := F) (rbV d sk.1 sk.2) c) ∗ outHalf d c)
      ⊢ iprop(barPay d (frD d c) ∗ bigSep Finset.univ fun k => own1 (obV d k c 0) c) := by
    unfold outHalf barPay
    rw [to_fr, bigSep_univ_prod, bigSep_univ_prod, bigSep_univ_prod, bigSep_30, bigSep_hd 15]
    have e1 : (fun i : Fin 15 => bigSep Finset.univ fun k : Fin 4 => own1 (F := F) (dstH (frD d c) ((⟨i.val, by omega⟩ : Fin 30), d, k)) c)
        = fun i : Fin 15 => bigSep Finset.univ fun k : Fin 4 => own1 (rbV d i k) c := by
      funext i; congr 1; funext k; rw [dstH_rs _ d k i.val i.isLt]
    have e2 : (fun i : Fin 15 => bigSep Finset.univ fun k : Fin 4 => own1 (F := F) (dstH (frD d c) ((⟨i.val + 15, by omega⟩ : Fin 30), d, k)) c)
        = fun i : Fin 15 => bigSep Finset.univ fun k : Fin 4 => own1 (pV (blk d c ⟨i.val + 1, by omega⟩) k) c := by
      funext i; congr 1; funext k; rw [dstH_ag _ d k i.val i.isLt, obV_fr]
    have e3 : (fun k : Fin 4 => own1 (F := F) (obV d k c 0) c) = fun k => own1 (pV (blk d c ⟨0, by decide⟩) k) c := by
      funext k; rw [obV_pV]; rfl
    rw [e1, e2, e3]
    iintro ⟨A, B, C⟩
    isplitl [A C]
    · isplitl [A]; · iexact A
      iexact C
    iexact B
  iintro ⟨A, B⟩
  iapply e
  isplitl [A]
  · iapply (rb_split d c); iexact A
  iexact B

/-- A sender's records at the end, one lane at a time: its cells at zero, its sources back. -/
theorem sLane_end (c : Dev nD) (l : Lane) :
    sLane X c l 30 30 = iprop((bigSep Finset.univ fun h : Fin 30 => semVal (sCell c (h, l)) 0) ∗ bigSep Finset.univ fun h : Fin 30 => held (srcH c (h, l)) c (valS X c (h, l))) := by
  unfold sLane
  rw [← bigSep_sep']
  exact bigSep_congr fun h _ => if_pos h.isLt
/-- After the last hop a lane's landing cells are all back at zero. -/
theorem rLane_end (c : Dev nD) (l : Lane) : rLane (F := F) c l 30 = bigSep Finset.univ fun h : Fin 30 => semVal (rCell c (h, l)) 0 := by
  unfold rLane; exact bigSep_congr fun h _ => if_pos h.isLt

/-- A lane's pieces at the end. -/
def lanePieces (c : Dev nD) (l : Lane) : sProp 𝕄 :=
  iprop(own1 (F := F) (sbV l.1 l.2) c ∗ (bigSep Finset.univ fun s : Fin 15 => own1 (rbV l.1 s l.2) c)
    ∗ bigSep Finset.univ fun j : Fin 16 => held (pV (blk l.1 c j) l.2) c (resV X (blk l.1 c j) l.2))

/-- The end of a lane gives back its pieces of the buffers and its counters at zero. -/
theorem laneEnd_pieces (c : Dev nD) (l : Lane) :
    laneEnd X c l ⊢ iprop((bigSep Finset.univ fun h : Fin 30 => semVal (sCell c (h, l)) 0) ∗ (bigSep Finset.univ fun h : Fin 30 => semVal (rCell c (h, l)) 0)
      ∗ lanePieces X c l) := by
  obtain ⟨d, k⟩ := l
  unfold laneEnd lanePieces
  rw [sLane_end, rLane_end, bigSep_30 (fun h => held (srcH c (h, d, k)) c (valS X c (h, d, k))),
    bigSep_hd 14 (fun i : Fin 15 => held (srcH c ((⟨i.val, by omega⟩ : Fin 30), d, k)) c (valS X c ((⟨i.val, by omega⟩ : Fin 30), d, k))),
    bigSep_tl 14 (fun s => own1 (rbV d s k) c), bigSep_tl 15 (fun j => held (pV (blk d c j) k) c (resV X (blk d c j) k))]
  have e0 : srcH c ((⟨0, by decide⟩ : Fin 30), d, k) = sbV d k := srcH_rs c d k 0 (by decide)
  have e1 : (bigSep Finset.univ fun i : Fin 14 => held (srcH c ((⟨i.val + 1, by omega⟩ : Fin 30), d, k)) c (valS X c ((⟨i.val + 1, by omega⟩ : Fin 30), d, k)))
      ⊢ (bigSep Finset.univ fun i : Fin 14 => own1 (rbV d ⟨i.val, by omega⟩ k) c : sProp 𝕄) :=
    bigSep_mono fun i _ => (Entails.of_eq (by rw [srcH_rs c d k (i.val + 1) (by omega)])).trans (held_own1 _ c _)
  have e2 : (bigSep Finset.univ fun i : Fin 15 => held (srcH c ((⟨i.val + 15, by omega⟩ : Fin 30), d, k)) c (valS X c ((⟨i.val + 15, by omega⟩ : Fin 30), d, k)))
      ⊢ (bigSep Finset.univ fun j : Fin 15 => held (pV (blk d c ⟨j.val, by omega⟩) k) c (resV X (blk d c ⟨j.val, by omega⟩) k) : sProp 𝕄) :=
    bigSep_mono fun i _ => (Entails.of_eq (congrArg (fun v => held v c (valS X c ((⟨i.val + 15, by omega⟩ : Fin 30), d, k)))
      ((srcH_ag c d k i.val i.isLt).trans (obV_pV d k c i)))).trans (Entails.of_eq (congrArg (held _ c) (val_blk X d k i.val (by omega) c)))
  have e3 : held (obV d k (frD d c) 14) c (val X d k 29 (frD d c)) ⊢ (held (pV (blk d c ⟨15, by omega⟩) k) c (resV X (blk d c ⟨15, by omega⟩) k) : sProp 𝕄) :=
    Entails.of_eq (by
      rw [obV_fr, ← val_ag X d k c 29 (by decide)]
      exact congrArg (held _ c) (val_blk X d k 15 (by omega) c))
  have e4 := held_own1 (rbV d 14 k) c (val X d k 14 (frD d c))
  have e5 := held_own1 (sbV d k) c (valS X c ((⟨0, by decide⟩ : Fin 30), d, k))
  iintro ⟨⟨HS, ⟨H0, H1⟩, H2⟩, HR, H4, H3⟩
  isplitl [HS]; · iexact HS
  isplitl [HR]; · iexact HR
  isplitl [H0]
  · iapply e5
    ihave H := (Entails.of_eq (congrArg (fun v => held v c (valS X c ((⟨0, _⟩ : Fin 30), d, k))) e0)) $$ H0
    iexact H
  isplitl [H1 H4]
  · isplitl [H1]
    · iapply e1; iexact H1
    iapply e4; iexact H4
  isplitl [H2]
  · iapply e2; iexact H2
  iapply e3; iexact H3

/-- All the lanes' pieces are the buffers again. -/
theorem pieces_join (c : Dev nD) (f₀ : ∀ b : Ref sig .tc, Buf (Elt F) ((c : Thread nD τ).loc b)) :
    lanes (lanePieces X c) ⊢ iprop((someAt (F := F) cc0_scratch0 c ∗ someAt (F := F) cc0_scratch1 c ∗ someAt (F := F) cc0_scratch2 c ∗ someAt (F := F) cc0_scratch3 c)
      ∗ ((c : Thread nD τ).loc cc0_stg1_0 ↦{fullShare} outF X)) := by
  unfold lanes lanePieces
  rw [bigSep_sep', bigSep_sep']
  have e1 : (bigSep Finset.univ fun l : Lane => own1 (F := F) (sbV l.1 l.2) c) ⊢ iprop(someAt (F := F) cc0_scratch0 c ∗ someAt (F := F) cc0_scratch1 c) := by
    rw [bigSep_univ_prod, bigSep_bool]
    exact BIClass.sep_mono (sb_join false c f₀) (sb_join true c f₀)
  have e2 : (bigSep Finset.univ fun l : Lane => bigSep Finset.univ fun s : Fin 15 => own1 (F := F) (rbV l.1 s l.2) c)
      ⊢ iprop(someAt (F := F) cc0_scratch2 c ∗ someAt (F := F) cc0_scratch3 c) := by
    rw [bigSep_univ_prod, bigSep_bool]
    refine BIClass.sep_mono ?_ ?_
    · refine (Entails.of_eq ?_).trans (rb_join false c f₀)
      rw [bigSep_univ_comm, ← bigSep_univ_prod (fun sk : Fin 15 × Fin 4 => own1 (F := F) (rbV false sk.1 sk.2) c)]
    · refine (Entails.of_eq ?_).trans (rb_join true c f₀)
      rw [bigSep_univ_comm, ← bigSep_univ_prod (fun sk : Fin 15 × Fin 4 => own1 (F := F) (rbV true sk.1 sk.2) c)]
  have e3 : (bigSep Finset.univ fun l : Lane => bigSep Finset.univ fun j : Fin 16 => held (pV (blk l.1 c j) l.2) c (resV X (blk l.1 c j) l.2))
      ⊢ ((c : Thread nD τ).loc cc0_stg1_0 ↦{fullShare} outF X : sProp 𝕄) := by
    refine (Entails.of_eq ?_).trans (out_join X c)
    rw [bigSep_univ_prod, bigSep_univ_prod]
    congr 1; funext d
    rw [bigSep_univ_comm, ← bigSep_univ_prod (fun jk : Fin 16 × Fin 4 => held (pV (blk d c jk.1) jk.2) c (resV X (blk d c jk.1) jk.2))]
  iintro ⟨H1, H2, H3⟩
  ihave H1 := e1 $$ H1
  ihave H2 := e2 $$ H2
  icases H1 with ⟨A, B⟩
  icases H2 with ⟨C, D⟩
  isplitr [H3]
  · isplitl [A]; · iexact A
    isplitl [B]; · iexact B
    isplitl [C]; · iexact C
    iexact D
  iapply e3; iexact H3

end Cert.KernelIdealRing
end
-- ==== Proof.KernelIdealBody.lean ====
module

public import proofs.«01_k».proof.Proof.KernelIdealPieces
public import proofs.«01_k».proof.Proof.Gen.KernelIdeal.Points
public import Idealize.ShloMosaic.Lib.Pipeline.FrameBody

@[expose] public section

noncomputable section

namespace Cert.KernelIdealRing

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## What a device starts with -/

/-- The tokens of the duties device `c` pays. -/
def payToks (c : Dev nD) : sProp 𝕄 :=
  iprop(dutyTok ER (barCell (toD true c)) 0 false ∗ dutyTok ER (barCell (toD false c)) 0 true
    ∗ (bigSep Finset.univ fun s : Slot => dutyTok ER (sCell c s) 0 true) ∗ bigSep Finset.univ fun s : Slot => dutyTok ER (rCell (toD s.2.1 c) s) 0 true)
/-- Its positions at its own cells. -/
def posns (c : Dev nD) : sProp 𝕄 :=
  iprop(atPos ER (barCell c) 0 ∅ 0 ∗ (bigSep Finset.univ fun s : Slot => atPos ER (sCell c s) 0 ∅ 0) ∗ bigSep Finset.univ fun s : Slot => atPos ER (rCell c s) 0 ∅ 0)
/-- The credit its neighbours owe it. -/
def creds (c : Dev nD) : sProp 𝕄 :=
  iprop(cred (tallyAt (barCell c) () 2) ∗ bigSep Finset.univ fun s : Slot => cred (tallyAt (rCell c s) () N))
/-- The kernel's own buffers, at some contents. -/
def scratch (c : Dev nD) : sProp 𝕄 :=
  iprop(someAt (F := F) cc0_scratch0 c ∗ someAt (F := F) cc0_scratch1 c ∗ someAt (F := F) cc0_scratch2 c ∗ someAt (F := F) cc0_scratch3 c)
/-- The kernel's own semaphores at zero. -/
def zeros (c : Dev nD) : sProp 𝕄 :=
  iprop((bigSep Finset.univ fun s : Slot => semVal (sCell c s) 0) ∗ bigSep Finset.univ fun s : Slot => semVal (rCell c s) 0)

/-- A family over all 240 transfers is one over the eight lanes of families over the 30 hops. -/
theorem slots_lanes (Φ : Slot → sProp 𝕄) : bigSep Finset.univ Φ = lanes fun l => bigSep Finset.univ fun h : Fin 30 => Φ (h, l) := by
  unfold lanes; rw [bigSep_univ_prod, bigSep_univ_comm]

variable (X : Xs F)

/-- Before any hop, what a device has of a send cell: its position and the token of its payment. -/
theorem sItem_zero (c : Dev nD) (s : Slot) : sItem X c s 0 0 = iprop(atPos ER (sCell c s) 0 ∅ 0 ∗ dutyTok ER (sCell c s) 0 true
    ∗ dutyTok ER (rCell (toD s.2.1 c) s) 0 true ∗ own1 (F := F) (dstH c s) (toD s.2.1 c)) := by
  unfold sItem; rw [if_neg (Nat.not_lt_zero _), if_neg (Nat.not_lt_zero _)]
/-- Before any hop, what a device has of a landing cell: its position and the credit of the copy to come. -/
theorem rItem_zero (c : Dev nD) (s : Slot) : rItem (F := F) c s 0 = iprop(atPos ER (rCell c s) 0 ∅ 0 ∗ cred (tallyAt (rCell c s) () N)) := by
  unfold rItem; rw [if_neg (Nat.not_lt_zero _)]

/-- What the two neighbours hand over is, lane by lane, what the lanes will write there. -/
theorem dst_lanes (c : Dev nD) : iprop(barPay (F := F) false c ∗ barPay true c) = lanes fun l => bigSep Finset.univ fun h : Fin 30 => own1 (F := F) (dstH c (h, l)) (toD l.1 c) := by
  unfold lanes barPay
  rw [show (bigSep Finset.univ fun l : Lane => bigSep Finset.univ fun h : Fin 30 => own1 (F := F) (dstH c (h, l)) (toD l.1 c))
      = bigSep Finset.univ fun d : Bool => bigSep Finset.univ fun k : Fin 4 => bigSep Finset.univ fun h : Fin 30 => own1 (F := F) (dstH c (h, d, k)) (toD d c) from bigSep_univ_prod _, bigSep_bool]
  congr 1
  · rw [bigSep_univ_comm, bigSep_univ_prod]
  · rw [bigSep_univ_comm, bigSep_univ_prod]

/-- The lanes before the first hop. -/
theorem lanes_zero (c : Dev nD) :
    iprop((bigSep Finset.univ fun s : Slot => atPos ER (sCell c s) 0 ∅ 0) ∗ (bigSep Finset.univ fun s : Slot => dutyTok ER (sCell c s) 0 true)
      ∗ (bigSep Finset.univ fun s : Slot => dutyTok ER (rCell (toD s.2.1 c) s) 0 true)
      ∗ (lanes fun l => bigSep Finset.univ fun h : Fin 30 => own1 (F := F) (dstH c (h, l)) (toD l.1 c))
      ∗ (bigSep Finset.univ fun s : Slot => atPos ER (rCell c s) 0 ∅ 0) ∗ (bigSep Finset.univ fun s : Slot => cred (tallyAt (rCell c s) () N))
      ∗ (lanes fun l => own1 (F := F) (sbV l.1 l.2) c) ∗ lanes fun l => own1 (F := F) (obV l.1 l.2 c 0) c) ⊢ lanes (lane X c 0) := by
  have e : lane X c 0 = fun l => iprop(((bigSep Finset.univ fun h : Fin 30 => atPos ER (sCell c (h, l)) 0 ∅ 0) ∗ (bigSep Finset.univ fun h : Fin 30 => dutyTok ER (sCell c (h, l)) 0 true)
      ∗ (bigSep Finset.univ fun h : Fin 30 => dutyTok ER (rCell (toD l.1 c) (h, l)) 0 true)
      ∗ bigSep Finset.univ fun h : Fin 30 => own1 (F := F) (dstH c (h, l)) (toD l.1 c))
      ∗ ((bigSep Finset.univ fun h : Fin 30 => atPos ER (rCell c (h, l)) 0 ∅ 0) ∗ bigSep Finset.univ fun h : Fin 30 => cred (tallyAt (rCell c (h, l)) () N))
      ∗ own1 (F := F) (sbV l.1 l.2) c ∗ own1 (F := F) (obV l.1 l.2 c 0) c) := by
    funext l
    obtain ⟨d, k⟩ := l
    unfold lane
    rw [extra_zero]
    unfold sLane rLane
    rw [bigSep_congr (s := Finset.univ) (fun (h : Fin 30) _ => sItem_zero X c (h, d, k)), bigSep_congr (s := Finset.univ) (fun (h : Fin 30) _ => rItem_zero (F := F) c (h, d, k))]
    rw [bigSep_sep', bigSep_sep', bigSep_sep', bigSep_sep']
  rw [e, slots_lanes, slots_lanes, slots_lanes, slots_lanes, slots_lanes]
  unfold lanes
  simp only [bigSep_sep']
  iintro ⟨A, B, C, D, E, G, H, I⟩
  isplitl [A B C D]
  · isplitl [A]; · iexact A
    isplitl [B]; · iexact B
    isplitl [C]; · iexact C
    iexact D
  isplitl [E G]
  · isplitl [E]; · iexact E
    iexact G
  isplitl [H]; · iexact H
  iexact I

/-- What the buffers are cut into at entry: what each neighbour will write, and the lanes' own pieces. -/
theorem entry_pieces (c : Dev nD) : iprop(scratch (F := F) c ∗ someAt (F := F) cc0_stg1_0 c)
    ⊢ iprop(barPay false (toD true c) ∗ barPay true (toD false c) ∗ (lanes fun l => own1 (F := F) (sbV l.1 l.2) c) ∗ lanes fun l => own1 (F := F) (obV l.1 l.2 c 0) c) := by
  have e1 : someAt cc0_scratch0 c ⊢ _ := sb_split (F := F) false c
  have e2 : someAt cc0_scratch1 c ⊢ _ := sb_split (F := F) true c
  have e3 := out_halves (F := F) c
  have e4 : iprop(someAt cc0_scratch2 c ∗ outHalf false c) ⊢ iprop(barPay false (toD true c) ∗ _) := entry_half (F := F) false c
  have e5 : iprop(someAt cc0_scratch3 c ∗ outHalf true c) ⊢ iprop(barPay true (toD false c) ∗ _) := entry_half (F := F) true c
  unfold scratch lanes
  rw [bigSep_univ_prod, bigSep_univ_prod, bigSep_bool, bigSep_bool]
  iintro ⟨⟨A, B, C, D⟩, O⟩
  ihave A := e1 $$ A
  ihave B := e2 $$ B
  ihave O := e3 $$ O
  icases O with ⟨O1, O2⟩
  ihave P := e4 $$ [C O1]
  · isplitl [C]; · iexact C
    iexact O1
  ihave Q := e5 $$ [D O2]
  · isplitl [D]; · iexact D
    iexact O2
  icases P with ⟨P1, P2⟩
  icases Q with ⟨Q1, Q2⟩
  isplitl [P1]; · iexact P1
  isplitl [Q1]; · iexact Q1
  isplitl [A B]
  · isplitl [A]; · iexact A
    iexact B
  isplitl [P2]; · iexact P2
  iexact Q2

/-- The ends of the eight lanes give back the scratch buffers, the result array with the sums in it, and all counters at zero. -/
theorem lanes_end (c : Dev nD) (f₀ : ∀ b : Ref sig .tc, Buf (Elt F) ((c : Thread nD τ).loc b)) :
    lanes (laneEnd X c) ⊢ iprop(zeros c ∗ scratch c ∗ ((c : Thread nD τ).loc cc0_stg1_0 ↦{fullShare} outF X)) := by
  have e : lanes (laneEnd X c) ⊢ lanes fun l => iprop((bigSep Finset.univ fun h : Fin 30 => semVal (sCell c (h, l)) 0) ∗ (bigSep Finset.univ fun h : Fin 30 => semVal (rCell c (h, l)) 0)
      ∗ lanePieces X c l) := by
    unfold lanes; exact bigSep_mono fun l _ => laneEnd_pieces X c l
  have e' := pieces_join X c f₀
  unfold zeros scratch
  rw [slots_lanes, slots_lanes]
  unfold lanes at e e' ⊢
  rw [bigSep_sep', bigSep_sep'] at e
  iintro H
  ihave H := e $$ H
  icases H with ⟨A, B, C⟩
  isplitl [A B]
  · isplitl [A]; · iexact A
    iexact B
  iapply e'; iexact C

/-! ## The body -/

/-- What a wait on the barrier cell takes out: the payloads of the two neighbours' signals. -/
theorem rest_bar (c : Dev nD) : bigSep ((rd X).duties (barCell c) 0 \ ∅) (fun d => (rd X).payload (barCell c) 0 d) = iprop(barPay false c ∗ barPay true c) := by
  rw [Finset.sdiff_empty, duties_bar, bigSep_bool]; rfl

variable (K : Dev nD × CI → ℕ)

set_option maxHeartbeats 800000 in
/-- The kernel on device `c`: signal both neighbours, handing over what they will write; wait for both, taking over what
    this device will write there; then all the hops. -/
theorem wp_whole (c : Dev nD) (W : Waits sig Unit) (f₀ : ∀ b : Ref sig .tc, Buf (Elt F) ((c : Thread nD τ).loc b)) (Q : PUnit → sProp 𝕄) :
    iprop(ctx X K ∗ posns c ∗ payToks c ∗ creds c ∗ scratch c ∗ owes (c : Thread nD τ) (O₀ c) W ∗ xPts X c ∗ someAt (F := F) cc0_stg1_0 c)
      ⊢ iprop((zeros c ∗ semVal (barCell c) 0 ∗ scratch c ∗ (∃ W', owes (c : Thread nD τ) 0 W') ∗ xPts X c
            ∗ ((c : Thread nD τ).loc cc0_stg1_0 ↦{fullShare} outF X) -∗ Q ⟨⟩)
        -∗ wp frame (wpE (defs₀ (F := F)) 𝒱₀ (c : Thread nD τ) none) Set.univ whole Q) := by
  unfold whole posns payToks creds
  simp only [semSignalWord, semWaitWord, Prog.lift, Prog.bind_op, Prog.bind_ret, Prog.pure_eq_ret, wp_deviceId]
  simp only [dev1_eq c, dev2_eq c]
  iintro ⟨#Hc, ⟨HatB, HatS, HatR⟩, ⟨HtP, HtN, HtS, HtR⟩, ⟨HcB, HcR⟩, Hscr, HO, Hx, Hout⟩ Hk
  ihave Hp := (entry_pieces (F := F) c) $$ [Hscr Hout]
  · isplitl [Hscr]; · iexact Hscr
    iexact Hout
  icases Hp with ⟨HpP, HpN, Hsb, Hob⟩
  unfold O₀
  iapply (Rounds.wp_signal 𝒱₀ ER (rd X) (c : Thread nD τ) none (dst := (toD true c : Thread nD τ)) (κ := K (toD true c, none))
      (d := false) (by rw [duties_bar]; exact Finset.mem_univ _) ((show (rd X).amount (barCell (toD true c)) 0 false = 1 from rfl).trans (by decide)) ()
      (oweN c 0 + tallyAt (barCell (toD false c)) () 1) rfl) $$ [HO HtP HpP]
  · isplitr; · iapply (ctx_inv X K (toD true c, none)); iexact Hc
    isplitl [HO]; · iexact HO
    isplitl [HtP]; · iexact HtP
    isplitl [HpP]; · rw [payload_bar]; iexact HpP
    iapply (ctx_reached X K (toD true c, none)); iexact Hc
  iintro HO
  iapply (Rounds.wp_signal 𝒱₀ ER (rd X) (c : Thread nD τ) none (dst := (toD false c : Thread nD τ)) (κ := K (toD false c, none))
      (d := true) (by rw [duties_bar]; exact Finset.mem_univ _) ((show (rd X).amount (barCell (toD false c)) 0 true = 1 from rfl).trans (by decide)) ()
      (oweN c 0) rfl) $$ [HO HtN HpN]
  · isplitr; · iapply (ctx_inv X K (toD false c, none)); iexact Hc
    isplitl [HO]; · iexact HO
    isplitl [HtN]; · iexact HtN
    isplitl [HpN]; · rw [payload_bar]; iexact HpN
    iapply (ctx_reached X K (toD false c, none)); iexact Hc
  iintro HO
  iapply (Rounds.wp_wait_rest_token 𝒱₀ ER (rd X) (c : Thread nD τ) none (κ := K (c, none))
      (wpE_semWait_eq 𝒱₀ (c : Thread nD τ) none Set.univ) (Set.mem_univ _) () (O := oweN c 0) (W := W) (R := 0) (m := 0) (T := ∅)
      (by rw [expect_bar]; decide)) $$ [HcB HO HatB]
  · isplitr; · iapply (ctx_inv X K (c, none)); iexact Hc
    isplitl [HcB]; · iexact HcB
    isplitl [HO]; · iexact HO
    isplitr; · iapply (ctx_mayWait X K c (.reg barS) 0 1 (le_refl 1) (by decide)); iexact Hc
    iexact HatB
  iintro ⟨HO, HatB, -, Hpay⟩
  ihave Hp := (Entails.of_eq ((rest_bar X c).trans (dst_lanes c))) $$ Hpay
  imod (Rounds.cell_close ER (rd X) (Set.mem_univ (K (c, none))) (fun h => h) (R := 0 + 1) (duties_later X (barCell c))) $$ [HatB] with HzB
  · isplitr; · iapply (ctx_inv X K (c, none)); iexact Hc
    iexact HatB
  iapply (wp_hops X K c) $$ [HO Hx HatS HatR HtS HtR HcR Hp Hsb Hob]
  · unfold St
    isplitl [HO Hx]
    · unfold Rs owing
      isplitr; · iexact Hc
      isplitl [HO]; · iexists _; iexact HO
      iexact Hx
    iapply (lanes_zero X c)
    isplitl [HatS]; · iexact HatS
    isplitl [HtS]; · iexact HtS
    isplitl [HtR]; · iexact HtR
    isplitl [Hp]; · iexact Hp
    isplitl [HatR]; · iexact HatR
    isplitl [HcR]; · iexact HcR
    isplitl [Hsb]; · iexact Hsb
    iexact Hob
  unfold Rs owing
  rw [oweN_end]
  iintro ⟨⟨-, HO, Hx⟩, HL⟩
  iapply Hk
  ihave HL := (lanes_end X c f₀) $$ HL
  icases HL with ⟨Hz, Hscr, Hout⟩
  isplitl [Hz]; · iexact Hz
  isplitl [HzB]; · iexact HzB
  isplitl [Hscr]; · iexact Hscr
  isplitl [HO]; · iexact HO
  isplitl [Hx]; · iexact Hx
  iexact Hout

end Cert.KernelIdealRing
end
-- ==== Proof.KernelIdealLaunch.lean ====
module

public import proofs.«01_k».proof.Proof.KernelIdealBody

@[expose] public section

noncomputable section

namespace Cert.KernelIdealRing

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## The cells and the tokens at launch -/

/-- The semaphores the kernel allocates, one for each side of each transfer. -/
abbrev osem (bs : Bool × Slot) : SemLoc sig := .dma (slotSem bs.1 bs.2)

/-- The kernel's own semaphores are numbered without repetition. -/
theorem osem_inj : Function.Injective osem := by
  rintro ⟨b, s⟩ ⟨b', s'⟩ h
  have h' := SemLoc.dma.inj h
  obtain ⟨h1, h2⟩ := slotSem_inj h'
  subst h1 h2; rfl

/-- The protocol's cells are numbered without repetition. -/
theorem kcell_injective : Function.Injective kcell := by
  rintro ⟨c, k⟩ ⟨c', k'⟩ h
  have h1 : c = c' := by
    have := congrArg (fun g : GSem nD τ sig => g.1.1) h
    cases k <;> cases k' <;> exact this
  subst h1
  cases k with
  | none => cases k' with
    | none => rfl
    | some b => exact absurd (congrArg Prod.snd h) (fun h' => by cases h')
  | some a => cases k' with
    | none => exact absurd (congrArg Prod.snd h) (fun h' => by cases h')
    | some b => rw [osem_inj (show osem a = osem b from congrArg Prod.snd h)]

/-- All cells of the protocol. -/
def ringCells : Finset (GSem nD τ sig) := Finset.univ.map ⟨kcell, kcell_injective⟩

/-- The duties of a device's own cells: two of the entry signals' cell, one of each other. -/
abbrev TI : Type := Bool ⊕ (Bool × Slot)
/-- The payment that a number stands for. -/
def tokOf (cj : Dev nD × TI) : GSem nD τ sig × ℕ × Bool :=
  match cj.2 with
  | .inl d => (barCell cj.1, 0, d)
  | .inr bs => (((cj.1 : Thread nD τ), osem bs), 0, true)

/-- The payments are numbered without repetition. -/
theorem tokOf_injective : Function.Injective tokOf := by
  rintro ⟨c, j⟩ ⟨c', j'⟩ h
  have h1 : c = c' := by
    have := congrArg (fun x : GSem nD τ sig × ℕ × Bool => x.1.1.1) h
    cases j <;> cases j' <;> exact this
  subst h1
  cases j with
  | inl d => cases j' with
    | inl d' => rw [show d = d' from congrArg (fun x : GSem nD τ sig × ℕ × Bool => x.2.2) h]
    | inr b => exact absurd (congrArg (fun x : GSem nD τ sig × ℕ × Bool => x.1.2) h) (fun h' => by cases h')
  | inr a => cases j' with
    | inl d => exact absurd (congrArg (fun x : GSem nD τ sig × ℕ × Bool => x.1.2) h) (fun h' => by cases h')
    | inr b => rw [osem_inj (show osem a = osem b from congrArg (fun x : GSem nD τ sig × ℕ × Bool => x.1.2) h)]

/-- All payments of the protocol. -/
def ringToks : Finset (GSem nD τ sig × ℕ × Bool) := Finset.univ.map ⟨tokOf, tokOf_injective⟩

/-- The ghost state at the start: the staging copies' and the ring's. -/
def u₀ : UU := (initOf (Pipeline.cells cfgs cellOf_inj) (Pipeline.launchToks cfgs cellOf_inj), initOf ringCells ringToks)

/-- A family over `Option` is its member at `none` and the rest. -/
theorem bigSep_opt {I : Type} [Fintype I] [DecidableEq I] (Φ : Option I → sProp 𝕄) :
    bigSep Finset.univ Φ = iprop(Φ none ∗ bigSep Finset.univ fun i => Φ (some i)) := by
  have h1 : (bigSep Finset.univ fun u : PUnit.{1} => Φ ((Equiv.optionEquivSumPUnit.{0} I).symm (Sum.inr u))) = Φ none := by
    show bigSep {PUnit.unit} _ = _
    exact bigSep_singleton
  rw [bigSep_univ_equiv (Equiv.optionEquivSumPUnit.{0} I).symm Φ, bigSep_univ_sum, h1]
  have e {P Q : sProp 𝕄} : iprop(P ∗ Q) = iprop(Q ∗ P) := Idealize.SL.BI.Entails.antisymm BI.sep_comm BI.sep_comm
  exact e

/-- A family over the two sides of the transfers, by side. -/
theorem bigSep_sides (Φ : Bool × Slot → sProp 𝕄) :
    bigSep Finset.univ Φ = iprop((bigSep Finset.univ fun s : Slot => Φ (false, s)) ∗ bigSep Finset.univ fun s : Slot => Φ (true, s)) := by
  rw [bigSep_univ_prod, bigSep_bool]

variable (X : Xs F)

/-- The duty tokens of device `c`'s own cells. -/
def toks (c : Dev nD) : sProp 𝕄 :=
  iprop((dutyTok ER (barCell c) 0 false ∗ dutyTok ER (barCell c) 0 true)
    ∗ (bigSep Finset.univ fun s : Slot => dutyTok ER (sCell c s) 0 true) ∗ bigSep Finset.univ fun s : Slot => dutyTok ER (rCell c s) 0 true)

/-- What the launch deals device `c`. -/
def G (c : Dev nD) : sProp 𝕄 :=
  iprop((bigSep Finset.univ fun k : CI => roundState ER (rd X) (kcell (c, k)) 0)
    ∗ (bigSep Finset.univ fun k : CI => iprop(atPos ER (kcell (c, k)) 0 ∅ 0 ∗ reached ER (kcell (c, k)) 0)) ∗ toks c)

/-- The ring's ghost state at the start gives every device its cells and payments. -/
theorem fund_ring : BI.own (ER (initOf ringCells ringToks)) ⊢ (|==> bigSep Finset.univ (G X) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_bool, bigSep_sides]; rfl
  iintro HX
  imod (Rounds.fund ER (rd X) ringCells ringToks) $$ HX with ⟨Hst, Hr, Hat, Htok⟩
  imodintro
  ihave Hst' := (Entails.of_eq (hX fun g => roundState ER (rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores at zero, cell by cell. -/
theorem ownSems0_eq (c : Dev nD) : (Pipeline.ownSems0 (Ix := Unit) (Name := ℕ) (U := UU) (Lvl := ℕ) (Val := Elt F) (τ := τ) osem c : sProp 𝕄) = zeros c := by
  unfold Pipeline.ownSems0 zeros
  exact bigSep_sides _
set_option maxRecDepth 8000 in
/-- The one other semaphore at zero is the barrier's. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- All counters at zero, cell by cell. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, bigSep_opt]
  unfold Pipeline.ownSems0
  iintro ⟨HO, HB⟩
  isplitl [HB]; · iexact HB
  iexact HO

/-- A device's cells, at zero, become cells under the protocol. -/
theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k : CI => iprop(∃ κ : ℕ, cellInv ER (rd X) κ (kcell (c, k))))
          ∗ (bigSep Finset.univ fun k : CI => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (rd X) (kcell (c, k)) 0)
      ⊢ (|={Set.univ}=> bigSep Finset.univ fun k : CI => iprop(∃ κ : ℕ, cellInv ER (rd X) κ (kcell (c, k))) : sProp 𝕄) from by
        rw [← bigSep_sep']
        exact (bigSep_mono fun k _ => (Rounds.body_intro ER (rd X) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The cells' invariants and round marks, which every device keeps. -/
def records (K : Dev nD × CI → ℕ) : sProp 𝕄 :=
  iprop((bigSep Finset.univ fun ck : Dev nD × CI => cellInv ER (rd X) (K ck) (kcell ck)) ∗ bigSep Finset.univ fun ck : Dev nD × CI => reached ER (kcell ck) 0)

/-- The record of the cells can be used any number of times. -/
instance records_persistent (K : Dev nD × CI → ℕ) : BI.Persistent (records X K) := by unfold records; infer_instance

/-- What the global step makes of it: the records under some names, the device's positions and the tokens it pays with. -/
def G' (c : Dev nD) : sProp 𝕄 := iprop(∃ K, records X K ∗ posns c ∗ payToks c)

/-- The positions of a device's cells, cell by cell. -/
theorem posns_eq (c : Dev nD) : (bigSep Finset.univ fun k : CI => (atPos ER (kcell (c, k)) 0 ∅ 0 : sProp 𝕄)) = posns c := by
  rw [bigSep_opt, bigSep_sides]; rfl

/-- The tokens dealt around the ring: each goes to the device that pays the duty. -/
theorem toks_around : (bigSep Finset.univ fun c : Dev nD => (toks c : sProp 𝕄)) ⊢ bigSep Finset.univ fun c : Dev nD => payToks c := by
  unfold toks payToks
  simp only [bigSep_sep']
  rw [bigSep_univ_equiv (ring true) (fun c : Dev nD => (dutyTok ER (barCell c) 0 false : sProp 𝕄)),
    bigSep_univ_equiv (ring false) (fun c : Dev nD => (dutyTok ER (barCell c) 0 true : sProp 𝕄)),
    bigSep_univ_comm (fun (c : Dev nD) (s : Slot) => (dutyTok ER (rCell c s) 0 true : sProp 𝕄)),
    bigSep_congr (s := Finset.univ) (fun (s : Slot) _ => bigSep_univ_equiv (ring s.2.1) (fun c : Dev nD => (dutyTok ER (rCell c s) 0 true : sProp 𝕄))),
    bigSep_univ_comm (fun (s : Slot) (c : Dev nD) => (dutyTok ER (rCell (ring s.2.1 c) s) 0 true : sProp 𝕄))]
  iintro ⟨⟨H1, H2⟩, H3, H4⟩
  isplitl [H1]; · iexact H1
  isplitl [H2]; · iexact H2
  isplitl [H3]; · iexact H3
  iexact H4

/-- A persistent fact can be given to every member of a family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The records, positions and payments of a device are what it starts the protocol with. -/
theorem ghost_intro (K : Dev nD × CI → ℕ) (c : Dev nD) : iprop(records X K ∗ posns c ∗ payToks c) ⊢ G' X c := by
  unfold G'; iintro H; iexists K; iexact H

/-- The positions and payments, sorted from the cells they belong to, to the devices that use them. -/
theorem regroup :
    (bigSep Finset.univ fun c : Dev nD => iprop((bigSep Finset.univ fun k : CI => iprop(∃ κ : ℕ, cellInv ER (rd X) κ (kcell (c, k))))
          ∗ (bigSep Finset.univ fun k : CI => iprop(atPos ER (kcell (c, k)) 0 ∅ 0 ∗ reached ER (kcell (c, k)) 0)) ∗ toks c) : sProp 𝕄)
      ⊢ bigSep Finset.univ (G' X) := by
  rw [bigSep_sep', bigSep_sep', ← bigSep_univ_prod (fun ck : Dev nD × CI => iprop(∃ κ : ℕ, cellInv ER (rd X) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)),
    bigSep_congr (s := Finset.univ) (fun (c : Dev nD) _ => posns_eq (F := F) c)]
  iintro ⟨HI, ⟨Hat, #HR⟩, Htok⟩
  ihave HK := (BI.bigSep_exists_pi Finset.univ (fun (ck : Dev nD × CI) (κ : ℕ) => (cellInv ER (rd X) κ (kcell ck) : sProp 𝕄))) $$ HI
  icases HK with ⟨%K, #HI⟩
  ihave Htk := (toks_around (F := F)) $$ Htok
  iapply (bigSep_with_persistent (R := records X K) fun c _ => ghost_intro X K c)
  isplitr
  · unfold records; isplitl; · iexact HI
    iexact HR
  · iapply (Entails.of_eq (bigSep_sep' Finset.univ (fun c : Dev nD => (posns c : sProp 𝕄)) payToks).symm)
    isplitl [Hat]; · iexact Hat
    iexact Htk

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The launch credit -/

/-- Barrier cells are equal only on one device. -/
theorem bar_eq_iff {a b : Dev nD} : Iff (barCell a = barCell b) (a = b) :=
  ⟨fun h => Fin.ext (congrArg (fun g : GSem nD τ sig => g.1.1.val) h), fun h => h ▸ rfl⟩
/-- Landing cells are equal only on one device and for one transfer. -/
theorem r_eq {a b : Dev nD} {s s' : Slot} (h : rCell a s = rCell b s') : a = b ∧ s = s' := by
  have h1 : a = b := Fin.ext (congrArg (fun g : GSem nD τ sig => g.1.1.val) h)
  have h2 : slotSem true s = slotSem true s' := SemLoc.dma.inj (congrArg Prod.snd h)
  exact ⟨h1, (slotSem_inj h2).2⟩
/-- A landing cell is no barrier cell. -/
theorem r_ne_bar (a b : Dev nD) (s : Slot) : ¬ rCell a s = barCell b := fun h => by
  have := congrArg Prod.snd h; cases this

/-- Which of a device's transfers `s` is. -/
def idx (s : Slot) : ℕ := 8 * s.1.val + 2 * s.2.2.val + (bif s.2.1 then 1 else 0)
/-- A transfer's place in the body's order is below 240. -/
theorem idx_lt (s : Slot) : idx s < 240 := by
  obtain ⟨h, d, k⟩ := s
  have := h.isLt; have := k.isLt
  cases d <;> simp only [idx, cond_true, cond_false] <;> omega
/-- The transfer at a transfer's place is that transfer. -/
theorem slotAt_idx (s : Slot) : slotAt (idx s) (idx_lt s) = s := by
  obtain ⟨h, d, k⟩ := s
  have := h.isLt; have := k.isLt
  unfold slotAt
  refine Prod.ext (Fin.ext ?_) (Prod.ext ?_ (Fin.ext ?_))
  · cases d <;> simp only [idx, cond_true, cond_false] <;> omega
  · cases d
    · exact decide_eq_false (by simp only [idx, cond_false]; omega)
    · exact decide_eq_true (by simp only [idx, cond_true]; omega)
  · cases d <;> simp only [idx, cond_true, cond_false] <;> omega
/-- The place of the transfer at place `i` is `i`. -/
theorem idx_slotAt (i : ℕ) (hi : i < 240) : idx (slotAt i hi) = i := by
  unfold slotAt idx
  by_cases h : i % 2 = 1
  · simp only [h, decide_true, cond_true]; omega
  · simp only [h, decide_false, cond_false]; omega

/-- A device's neighbour is `c` just when the device is `c`'s neighbour on the other side. -/
theorem to_eq (b : Bool) (d c : Dev nD) : toD b d = c ↔ d = frD b c :=
  ⟨fun h => h ▸ (fr_to b d).symm, fun h => h ▸ to_fr b c⟩

/-- Only one neighbour owes a landing cell, the amount of one piece. -/
theorem owed_r (d c : Dev nD) (s : Slot) : O₀ d (rCell c s) () = if d = frD s.2.1 c then N else 0 := by
  unfold O₀
  rw [Pi.add_apply, Finsupp.add_apply, Pi.add_apply, Finsupp.add_apply,
    tallyAt_ne_cell (r_ne_bar c _ s), tallyAt_ne_cell (r_ne_bar c _ s), Finsupp.zero_apply, Nat.add_zero, Nat.add_zero]
  unfold oweN
  rw [Finset.sum_apply, Finsupp.finset_sum_apply, Finset.sum_eq_single (idx s)]
  · unfold owe1
    rw [dif_pos (idx_lt s), slotAt_idx, tallyAt_apply]
    by_cases h : d = frD s.2.1 c
    · rw [if_pos ⟨by rw [(to_eq _ _ _).mpr h], rfl⟩, if_pos h]
    · rw [if_neg (fun h' => h ((to_eq _ _ _).mp (r_eq h'.1).1.symm)), if_neg h]
  · intro i hi hne
    have hi' := (Finset.mem_Ico.mp hi).2
    unfold owe1
    rw [dif_pos hi', tallyAt_apply, if_neg]
    intro h'
    exact hne (by rw [(r_eq h'.1).2, idx_slotAt])
  · intro h
    exact absurd (Finset.mem_Ico.mpr ⟨Nat.zero_le _, idx_lt s⟩) h

/-- Both neighbours owe a barrier cell one signal. -/
theorem owed_bar (d c : Dev nD) : O₀ d (barCell c) () = (if d = frD false c then 1 else 0) + (if d = frD true c then 1 else 0) := by
  have h0 : oweN d 0 (barCell c) () = 0 := by
    by_contra h
    obtain ⟨i, hi, _, e⟩ := oweN_pos (Nat.pos_of_ne_zero h)
    exact r_ne_bar _ _ _ e.symm
  unfold O₀
  rw [Pi.add_apply, Finsupp.add_apply, Pi.add_apply, Finsupp.add_apply, h0, Nat.zero_add, tallyAt_apply, tallyAt_apply]
  refine congrArg₂ (· + ·) ?_ ?_
  · by_cases h : d = frD false c
    · rw [if_pos ⟨by rw [(to_eq _ _ _).mpr h], rfl⟩, if_pos h]
    · rw [if_neg (fun h' => h ((to_eq _ _ _).mp (bar_eq_iff.mp h'.1).symm)), if_neg h]
  · by_cases h : d = frD true c
    · rw [if_pos ⟨by rw [(to_eq _ _ _).mpr h], rfl⟩, if_pos h]
    · rw [if_neg (fun h' => h ((to_eq _ _ _).mp (bar_eq_iff.mp h'.1).symm)), if_neg h]

/-- The credit at launch on a barrier cell: two signals. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (frD false c) fun _ => 1, Finset.sum_ite_eq' Finset.univ (frD true c) fun _ => 1, if_pos (Finset.mem_univ _), if_pos (Finset.mem_univ _)]

/-- The credit at launch on a landing cell: one piece. -/
theorem launch_r (c : Dev nD) (s : Slot) :
    tallyOn (rCell c s) (launchCredit (Pipeline.owing O₀) 0 (rCell c s)) = (tallyAt (rCell c s) () N : CellTallies nD τ sig Unit) := by
  unfold tallyAt; refine congrArg _ (Finsupp.ext fun u => ?_); cases u
  rw [Pipeline.launchCredit_owing, Finsupp.single_eq_same, Finset.sum_congr rfl fun d _ => owed_r d c s, Finset.sum_ite_eq' Finset.univ (frD s.2.1 c) fun _ => N,
    if_pos (Finset.mem_univ _)]

/-- The semaphores of a device that others credit. -/
def csem (k : Option Slot) : SemLoc sig := match k with
  | none => .reg barS
  | some s => .dma (slotSem true s)
/-- The waited-for semaphores are numbered without repetition. -/
theorem csem_inj : Function.Injective csem := by
  intro k k' h
  cases k with
  | none => cases k' with
    | none => rfl
    | some b => cases h
  | some a => cases k' with
    | none => cases h
    | some b => rw [(slotSem_inj (SemLoc.dma.inj h)).2]

/-- A family over all semaphores has a member at the barrier and one at each landing. -/
theorem bigSep_csem (Φ : SemLoc sig → sProp 𝕄) : bigSep Finset.univ Φ ⊢ iprop(Φ (.reg barS) ∗ bigSep Finset.univ fun s : Slot => Φ (.dma (slotSem true s))) := by
  have h : bigSep Finset.univ Φ ⊢ bigSep (Finset.univ.map ⟨csem, csem_inj⟩) Φ := bigSep_subset (Finset.subset_univ _)
  rw [bigSep_map, bigSep_opt] at h
  exact h

/-- The credit at launch covers every wait of the body. -/
theorem creds_intro (c : Dev nD) : (Pipeline.launchCred O₀ c : sProp 𝕄) ⊢ creds c := by
  have h := bigSep_csem (F := F) (fun sm => cred (tallyOn ((c : Thread nD τ), sm) (launchCredit (Pipeline.owing O₀) 0 ((c : Thread nD τ), sm))))
  rw [launch_bar c, bigSep_congr (s := Finset.univ) (fun (s : Slot) _ => congrArg cred (launch_r c s))] at h
  unfold Pipeline.launchCred creds
  exact h

end Cert.KernelIdealRing
end
-- ==== Proof.KernelIdealRun.lean ====
module

public import proofs.«01_k».proof.Proof.KernelIdealLaunch
public import Idealize.ShloMosaic.Lib.Pipeline.CollectiveSegs

@[expose] public section

noncomputable section

namespace Cert.KernelIdealRing

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The block of the input device `c` stages: all of it. -/
def xstg : Xs F := fun c => (win0_0.blk (0 : Fin 1)).view.read (Elt F) ((s₀ m ρ).mem ((c : Thread nD τ).loc main_arg0))

/-- What device `c`'s body starts from. -/
def start (c : Dev nD) : sProp 𝕄 := iprop((∃ K, ctx (xstg m ρ) K) ∗ posns c ∗ payToks c ∗ creds c ∗ levs (F := F))
/-- What a device has before the body, the staged arrays apart. -/
def Φ₀ (c : Dev nD) : sProp 𝕄 := iprop(start m ρ c ∗ scratch c)
/-- What it ends with: its buffers, and every semaphore of its own and the entry signals' at zero. -/
def Φ₁ (c : Dev nD) : sProp 𝕄 := iprop(scratch (F := F) c ∗ zeros c ∗ semVal (barCell c) 0)

/-- The proof data of the one region: what the windows hold before and after the body, and what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outF (xstg m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- Owning a whole buffer's view is owning the buffer. -/
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- A staging buffer at given contents. -/
def stg (c : Dev nD) (b : Ref sig .tc) (Y : b.ty.Contents (Elt F)) : sProp 𝕄 :=
  iprop(∃ f : Buf (Elt F) ((c : Thread nD τ).loc b), ⌜f = Y⌝ ∗ ((c : Thread nD τ).loc b ↦{fullShare} f))

set_option maxRecDepth 4000 in
/-- What the body starts from. -/
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

set_option maxRecDepth 4000 in
/-- What the body ends with. -/
def bodyPost (c : Dev nD) : sProp 𝕄 :=
  iprop(Φ₁ (F := F) c ∗ (dats m ρ 0 c).owesAt () t0_0.succ ∗ stg c cc0_stg0_0 (xstg m ρ c) ∗ stg c cc0_stg1_0 (outF (xstg m ρ)))

set_option maxRecDepth 4000 in
/-- The body, from what it starts from to what it ends with. -/
theorem sound_body (c : Dev nD) : bodyPre m ρ c ⊢ wp frame (wpE (defs₀ (F := F)) 𝒱₀ (c : Thread nD τ) none) Set.univ bodyK (fun _ => bodyPost m ρ c) := by
  rw [body_eq]
  unfold bodyPre stg Φ₀ start Dat.owesAt Pipeline.owesWithin
  rw [show (dats m ρ 0 c).owed t0_0.castSucc = O₀ c from rfl]
  iintro ⟨⟨⟨⟨%K, #Hc⟩, Hpos, Htok, Hcr, -⟩, Hscr⟩, ⟨%W, -, HO⟩, ⟨%d0, %g0, %hg0, Hx⟩, ⟨%d1, %g1, -, Hout⟩⟩
  have hx : g0 = xstg m ρ c := by rw [hg0]; unfold Dat.before; rw [if_pos (fetch0_0 t0_0)]; rfl
  subst hx
  iapply (wp_whole (xstg m ρ) K c W (fun b => m ((c : Thread nD τ).loc b))) $$ [Hpos Htok Hcr Hscr HO Hx Hout]
  · isplitr; · iexact Hc
    isplitl [Hpos]; · iexact Hpos
    isplitl [Htok]; · iexact Htok
    isplitl [Hcr]; · iexact Hcr
    isplitl [Hscr]; · iexact Hscr
    isplitl [HO]; · iexact HO
    isplitl [Hx]; · unfold xPts; iexact Hx
    unfold someAt; iexists _; iexact Hout
  iintro ⟨Hz, HzB, Hscr, ⟨%W', HO⟩, Hx, Hout⟩
  unfold bodyPost Φ₁ stg Dat.owesAt Pipeline.owesWithin xPts
  rw [show (dats m ρ 0 c).owed t0_0.succ = 0 from rfl]
  isplitl [Hz HzB Hscr]
  · isplitl [Hscr]; · iexact Hscr
    isplitl [Hz]; · iexact Hz
    iexact HzB
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 100000 in
/-- The body obligation on core `c`. -/
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  simp only [owns_whole_eq]
  exact sound_body m ρ c

/-! ## The launch's side conditions -/

/-- The staging copies use the first two semaphores. -/
theorem stage_sem (w : Fin cfg0.W) (s : Fin (cfg0.spec w).nbuf) : ((cfg0.win w).sem s).val < 2 := by revert w s; decide

/-- The kernel's own semaphores are not the staging copies'. -/
theorem ownSemFacts : Pipeline.OwnSemFacts cfg0.spec osem where
  isScoped := fun k => by revert k; decide +kernel
  inj := osem_inj
  disj := fun k w s h => by
    have h1 : (slotSem k.1 k.2).val = ((cfg0.win w).sem s).val := congrArg Fin.val (SemLoc.dma.inj h)
    have h2 := slotSem_ge k.1 k.2
    have h3 : ((cfg0.win w).sem s).val < 2 := stage_sem w s
    omega

/-- The staged arrays are owned in full. -/
theorem share_eq (c : Dev nD) (w : Fin cfg0.W) : (dats m ρ 0 c).share w = fullShare := by unfold Dat.share; split <;> rfl

/-- Whatever a device owes at the start is owed to a barrier or landing cell. -/
theorem O₀_pos {c : Dev nD} {g : GSem nD τ sig} {u : Unit} (h : 0 < O₀ c g u) :
    (∃ (i : ℕ) (hi : i < 240), g = rCell (toD (slotAt i hi).2.1 c) (slotAt i hi)) ∨ ∃ d, g = barCell (toD d c) := by
  by_contra hn
  rw [not_or] at hn
  have e : O₀ c g u = 0 := by
    have h0 : oweN c 0 g u = 0 := by
      by_contra h0
      obtain ⟨i, hi, _, e⟩ := oweN_pos (Nat.pos_of_ne_zero h0)
      exact hn.1 ⟨i, hi, e⟩
    unfold O₀
    rw [Pi.add_apply, Finsupp.add_apply, Pi.add_apply, Finsupp.add_apply, h0,
      tallyAt_ne_cell (fun e => hn.2 ⟨false, e⟩), tallyAt_ne_cell (fun e => hn.2 ⟨true, e⟩), Finsupp.zero_apply]
    rfl
  exact absurd (e ▸ h) (Nat.lt_irrefl 0)

/-- The staging waits are allowed: the staging cells are below every cell a device owes. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by
        rcases O₀_pos hg with ⟨i, hi, rfl⟩ | ⟨d, rfl⟩
        · rw [L_tc]; exact Finset.mem_singleton_self _
        · rw [L_tc]; exact Finset.mem_singleton_self _)
      (fun p hp => by
        rw [Finset.mem_singleton.mp hp]
        show (if 2 ≤ q.val then _ else 0) ≤ 0
        rw [if_neg (by omega)])
      (fun g u hg => by
        rcases O₀_pos hg with ⟨i, hi, rfl⟩ | ⟨d, rfl⟩
        · rw [lv_r]; exact Nat.add_pos_left Nat.two_pos _
        · rw [lv_bar]; exact Nat.one_pos)
  · rw [MayWait_zero]; iintro -; iempintro

/-- The staging copies' waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_sem w s) _ (by
      rcases t with ⟨_ | _, ht⟩
      · exact Or.inl rfl
      · exact Or.inr rfl)

/-- What the launch gives a device is what the protocol starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xstg m ρ) c)
      ⊢ |={Set.univ}=> iprop(start m ρ c ∗ emp) := by
  unfold G' records
  iintro ⟨-, #Hlev, Hcr, -, ⟨%K, ⟨#H1, #H2⟩, Hpos, Htok⟩⟩
  ihave Hc := (creds_intro (F := F) c) $$ Hcr
  imodintro
  unfold start ctx levs
  isplitl
  · isplitr
    · iexists K
      isplitr; · iexact H1
      isplitr; · iexact H2
      iexact Hlev
    isplitl [Hpos]; · iexact Hpos
    isplitl [Htok]; · iexact Htok
    isplitl [Hc]; · iexact Hc
    iexact Hlev
  · iempintro

/-- With the scratch buffers, that is what the body needs. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch someAt
  iintro ⟨Hs, -, Hr⟩
  isplitl [Hs]; · iexact Hs
  iexact Hr

/-- What the body leaves is what the region's end asks for. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch someAt
  iintro ⟨Hr, Hz, HzB⟩
  isplitl [HzB]; · iexact HzB
  isplitl [Hz]; · iexact Hz
  iexact Hr

/-! ## The run -/

/-- A window's array after the run. -/
def finalA (c : Dev nD) (w : Fin cfg0.W) : Buf (Elt F) ((cfg0.win w).arr.view.loc (c : Thread nD τ)) := (dats m ρ 0 c).arrAt w cfg0.N

/-- The windows' arrays at the end of the run. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On the sixteen devices, for any float values, from any memory with zero counters: every weakly fair execution of
    `main` terminates, and every final state has each device's arrays at `finalA` and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xstg m ρ)) (G' := G' (xstg m ρ)) (u₀ := u₀)
    (hu₀ := by
      unfold u₀
      iintro Hu
      ihave H := (ownU_pair _ _) $$ Hu
      icases H with ⟨HP, HX⟩
      imod (fund_ring (xstg m ρ)) $$ HX with HG
      imodintro
      isplitl [HP] <;> iassumption)
    (hglob := glob (xstg m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdealRing
end
-- ==== Proof.KernelIdealValue.lean ====
module

public import proofs.«01_k».proof.Proof.KernelIdealRun
public import Idealize.ShloMosaic.Lib.ValueIdx
public import Idealize.ShloMosaic.Lib.ValueLayout

@[expose] public section

noncomputable section

namespace Cert.KernelIdealRing

open Cert.KernelIdeal Cert.KernelIdeal.Gen
open Idealize.ShloMosaic
open Idealize.ShloMosaic.TcCoe
open Idealize.SL.Sem
open Idealize.ShloMosaic.Pipeline (Dat)
open Idealize.ShloMosaic.ValueIdx

/-! ## The arrays after the run -/

section Arrays

variable {F : FTy → Type} [FloatOps F]
variable (m : (ℓ : Loc nD τ sig) → Buf (Elt F) ℓ) (ρ : Dev nD → PrngReg)

/-- The one block of the result's window is the whole array. -/
theorem out_cover (i : S32x128x1024.Idx) : ∃ t : Fin cfg0.N, (cfg0.win 1).flush t = true ∧ i ∈ ((cfg0.win 1).blk t).view.set := by
  refine ⟨t0_0, flush0_1 _, ?_⟩
  show i ∈ ((View.whole main_v1).slice (win0_1.rect t0_0)).set
  rw [View.set_slice_whole, Rect.mem_set_unit]
  have h0 : (i 0).val < 32 := (i 0).isLt
  have h1 : (i 1).val < 128 := (i 1).isLt
  have h2 : (i 2).val < 1024 := (i 2).isLt
  intro a
  fin_cases a
  · exact ⟨Nat.zero_le _, h0⟩
  · exact ⟨Nat.zero_le _, h1⟩
  · exact ⟨Nat.zero_le _, h2⟩

/-- A whole block read is the array. -/
theorem read_out (f : S32x128x1024.Idx → Elt F .bf16) (t : Fin cfg0.N) :
    ((cfg0.win 1).blk t).view.read (Elt F) f = f := by
  obtain rfl := fin_N0 t
  funext i
  show f ((win0_1.rect t0_0).emb i) = f i
  refine congrArg f (funext fun a => Fin.ext ?_)
  fin_cases a
  · exact (ValueKit.rect_emb_unit_val _ _ _ _ 0).trans (Nat.zero_add _)
  · exact (ValueKit.rect_emb_unit_val _ _ _ _ 1).trans (Nat.zero_add _)
  · exact (ValueKit.rect_emb_unit_val _ _ _ _ 2).trans (Nat.zero_add _)

/-- What the body leaves in the result's block is what the array gets. -/
theorem flushed_out (c : Dev nD) (t : Fin cfg0.N) :
    (dats m ρ 0 c).flushed 1 t = ((cfg0.win 1).blk t).view.read (Elt F) (outF (xstg m ρ)) := by
  obtain rfl := fin_N0 t
  have ha : (dats m ρ 0 c).after 1 t0_0 = outF (xstg m ρ) := by dsimp only [dats]
  unfold Pipeline.Dat.flushed
  rw [ha, read_out]
  rfl

/-- The result array after the run. -/
theorem finalA_out (c : Dev nD) : finalA m ρ c (1 : Fin 2) = outF (xstg m ρ) :=
  (dats m ρ 0 c).arrAt_eq_of_cover 1 (outF (xstg m ρ)) (fun t _ => flushed_out m ρ c t) out_cover

/-- The staged input is the input array. -/
theorem xstg_apply (c : Dev nD) (i : S32x128x1024.Idx) : xstg m ρ c i = (m ((c : Thread nD τ).loc main_arg0) : S32x128x1024.Idx → Elt F .bf16) i := by
  show (m ((c : Thread nD τ).loc main_arg0) : S32x128x1024.Idx → Elt F .bf16) ((win0_0.rect t0_0).emb i) = _
  refine congrArg _ (funext fun a => Fin.ext ?_)
  fin_cases a
  · exact (ValueKit.rect_emb_unit_val _ _ _ _ 0).trans (Nat.zero_add _)
  · exact (ValueKit.rect_emb_unit_val _ _ _ _ 1).trans (Nat.zero_add _)
  · exact (ValueKit.rect_emb_unit_val _ _ _ _ 2).trans (Nat.zero_add _)

/-- What every final state of the run has. -/
theorem run_arrays : θ_run defs (onTc (τ := τ) (main (F := F))) ⟨m, fun _ => 0, ρ⟩ (fun r =>
    (∀ c : Dev nD, r.2.mem ((c : Thread nD τ).loc main_v1) = outF (xstg m ρ)
      ∧ r.2.mem ((c : Thread nD τ).loc main_arg0) = m ((c : Thread nD τ).loc main_arg0)) ∧ r.2.sem = fun _ => 0) :=
  (θ_run defs _ _).mono (fun _ h => ⟨fun c => ⟨(h.1 c 1).trans (finalA_out m ρ c), (h.1 c 0).trans (finalA_x m ρ c)⟩, h.2⟩) (run_main m ρ)

end Arrays

/-! ## The rows a device adds, at an index -/

section Rows

variable {F : FTy → Type} [FloatOps F] (X : Xs F)

/-- Rows of a piece of the input, by index. -/
theorem flat_read (off : Fin 3 → ℕ) (h : ∀ a, off a + S1x32x1024.size a ≤ S32x128x1024.size a) (c : Dev nD) (b : Fin 32) (k : Fin 4)
    (e : off = ![b.val, 32 * k.val, 0]) (r : Fin 32) (q : Fin 1024) :
    flat (xM.view.readAt (Elt F) (Rect.unit (s := S32x128x1024) off S1x32x1024.size h).toLoadRect (X c)) (ix2 r q)
      = (X c : S32x128x1024.Idx → Elt F .bf16) (ix3 b (⟨32 * k.val + r.val, by omega⟩ : Fin 128) q) := by
  subst e
  unfold flat
  rw [shapeCast_1ab_ab_apply]
  show (X c : S32x128x1024.Idx → Elt F .bf16) ((Rect.unit (s := S32x128x1024) ![b.val, 32 * k.val, 0] S1x32x1024.size h).emb (ix3 (0 : Fin 1) r q)) = _
  refine congrArg _ (funext fun a => Fin.ext ?_)
  fin_cases a
  · exact (ValueKit.rect_emb_unit_val _ _ _ _ 0).trans rfl
  · exact (ValueKit.rect_emb_unit_val _ _ _ _ 1).trans rfl
  · exact (ValueKit.rect_emb_unit_val _ _ _ _ 2).trans (Nat.zero_add _)

/-- The rows that a hop of the reduce-scatter adds, by index. -/
theorem xrow_apply (d : Bool) (k : Fin 4) (s : Fin 15) (c : Dev nD) (b : Fin 32) (hb : b.val = xCh d c s) (r : Fin 32) (q : Fin 1024) :
    xrow X d k s c (ix2 r q) = (X c : S32x128x1024.Idx → Elt F .bf16) (ix3 b (⟨32 * k.val + r.val, by omega⟩ : Fin 128) q) :=
  flat_read X _ _ c b k ((xOff_eq d k c s).trans (by rw [hb])) r q
/-- The rows that the last addition adds, by index. -/
theorem frow_apply (d : Bool) (k : Fin 4) (c : Dev nD) (b : Fin 32) (hb : b.val = gCh d c 0) (r : Fin 32) (q : Fin 1024) :
    frow X d k c (ix2 r q) = (X c : S32x128x1024.Idx → Elt F .bf16) (ix3 b (⟨32 * k.val + r.val, by omega⟩ : Fin 128) q) :=
  flat_read X _ _ c b k ((fOff_eq d k c).trans (by rw [hb])) r q

/-- Along the ring, a hop adds the same block the sender added at the hop before. -/
theorem xCh_succ (d : Bool) (c : Dev nD) (s : ℕ) (h : s + 1 < 15) : xCh d c ⟨s + 1, h⟩ = xCh d (frD d c) ⟨s, by omega⟩ := by
  have hc : c.val < 16 := c.isLt
  cases d <;> simp only [xCh, frD, toD, cond_true, cond_false, Bool.not_true, Bool.not_false] <;> omega
/-- The block that a device finishes is the one its sender added to at the last hop. -/
theorem gCh_zero (d : Bool) (c : Dev nD) : gCh d c 0 = xCh d (frD d c) 14 := by
  have hc : c.val < 16 := c.isLt
  revert c; cases d <;> decide
/-- A block is finished at its origin. -/
theorem gCh_origin (b : Fin 32) : gCh (dirOf b) (origin b) 0 = b.val := by revert b; decide

end Rows

/-! ## The result over the extended reals -/

section Sums

variable (X : Xs Ideal)

/-- A device's input at an index, as an extended real. -/
def cell (c : Dev nD) (i : S32x128x1024.Idx) : EReal := X c i

/-- The sum a transfer carries: the sender's rows of the block, and those of the devices it came by. -/
theorem val_apply (d : Bool) (k : Fin 4) (r : Fin 32) (q : Fin 1024) (s : ℕ) (hs : s < 15) (c : Dev nD) (b : Fin 32) (hb : b.val = xCh d c ⟨s, hs⟩) :
    val X d k s c (ix2 r q)
      = ∑ i ∈ Finset.range (s + 1), cell X ((frD d)^[i] c) (ix3 b (⟨32 * k.val + r.val, by omega⟩ : Fin 128) q) := by
  induction s generalizing c with
  | zero =>
    rw [val_zero, xrow_apply X d k 0 c b hb, zero_add, Finset.sum_range_one]; rfl
  | succ s ih =>
    rw [val_add X d k c s hs, ValueIdx.addf_apply, ih (by omega) (frD d c) (hb.trans (xCh_succ d c s hs)), xrow_apply X d k ⟨s + 1, hs⟩ c b hb,
      Finset.sum_range_succ' _ (s + 1)]
    rfl

/-- Going back along the ring meets every device once. -/
theorem around_bijective (d : Bool) (c : Dev nD) : Function.Bijective (fun i : Fin 16 => (frD d)^[i.val] c) := by
  revert d c; decide +kernel

/-- A finished piece, by index: the sum of the devices' inputs. -/
theorem res_apply (b : Fin 32) (k : Fin 4) (r : Fin 32) (q : Fin 1024) :
    resV X b k (ix2 r q) = ∑ c : Dev nD, cell X c (ix3 b (⟨32 * k.val + r.val, by omega⟩ : Fin 128) q) := by
  unfold resV
  have h := gCh_origin b
  rw [val_fin, ValueIdx.addf_apply, val_apply X (dirOf b) k r q 14 (by decide) (frD (dirOf b) (origin b)) b (h.symm.trans (gCh_zero _ _)),
    frow_apply X (dirOf b) k (origin b) b h.symm]
  rw [← Function.Bijective.sum_comp (around_bijective (dirOf b) (origin b))
    (fun c => cell X c (ix3 b (⟨32 * k.val + r.val, by omega⟩ : Fin 128) q)),
    Fin.sum_univ_eq_sum_range (fun i => cell X ((frD (dirOf b))^[i] (origin b)) (ix3 b (⟨32 * k.val + r.val, by omega⟩ : Fin 128) q)) 16,
    Finset.sum_range_succ' _ 15]
  rfl

/-- The result at an index: the sum of the devices' inputs there. -/
theorem outF_apply (i : S32x128x1024.Idx) : (outF X : S32x128x1024.Idx → EReal) i = ∑ c : Dev nD, cell X c i := by
  have h1 : (i 1).val < 128 := (i 1).isLt
  refine (res_apply X _ _ _ _).trans (Finset.sum_congr rfl fun c _ => congrArg (cell X c) (funext fun a => Fin.ext ?_))
  fin_cases a
  · rfl
  · show 32 * ((i 1).val / 32) + (i 1).val % 32 = (i 1).val
    omega
  · rfl

end Sums

end Cert.KernelIdealRing
end
-- ==== Proof.ReferenceIdealValue.lean ====
module

public import proofs.«01_k».proof.Proof.Gen.ReferenceIdeal.Run
public import Idealize.ShloMosaic.Lib.IdealHost
public import Idealize.ShloMosaic.Lib.Layout
public import Idealize.ShloMosaic.Lib.Pointwise
public import Idealize.ShloMosaic.Lib.ValueIdx
public import Idealize.ShloMosaic.Lib.Pipeline.Value

@[expose] public section

noncomputable section

namespace Cert.ReferenceIdealSum

open Cert.ReferenceIdeal Cert.ReferenceIdeal.Gen
open Idealize.ShloMosaic
open Idealize.ShloMosaic.TcCoe
open Idealize.SL.Sem

/-- Cutting the leading axis of the argument into sixteen: an entry of row-group `c` is an entry of block `c`. -/
theorem split_apply (x : S512x128x1024.Idx → EReal) (c : Fin 16) (j : S32x128x1024.Idx) :
    shapeCast S16x32x128x1024 x shapeCasts_S512x128x1024_S16x32x128x1024 (ix4 c (j 0) (j 1) (j 2))
      = (Layout.block ⟨3, ![32, 128, 1024]⟩ ⟨3, ![512, 128, 1024]⟩ 0 16 c x : S32x128x1024.Idx → EReal) j := by
  rw [Layout.block_apply]
  refine shapeCast_apply x _ _ _ ?_
  rw [Shape.rowMajor_val_three, Shape.rowMajor_val_four]
  rfl

/-- The reference's result at an index: the sum, over the sixteen blocks of the argument, of the block's entry. -/
theorem result_apply (x : S512x128x1024.Idx → EReal) (j : S32x128x1024.Idx) :
    (truncf (F := Ideal) .bf16 (Host.reduceAdd (F := Ideal) (extf (F := Ideal) .f32
        (shapeCast S16x32x128x1024 x shapeCasts_S512x128x1024_S16x32x128x1024 : S16x32x128x1024.Idx → EReal) bitsLt_bf16_f32)
        (constant (F := Ideal) S_ .f32 0x00000000#32)
        reducesTo_S16x32x128x1024_S32x128x1024_d0 h_S_) bitsLt_bf16_f32 : S32x128x1024.Idx → EReal) j
      = ∑ c : Fin 16, (Layout.block ⟨3, ![32, 128, 1024]⟩ ⟨3, ![512, 128, 1024]⟩ 0 16 c x : S32x128x1024.Idx → EReal) j := by
  rw [ValueIdx.truncf_apply, ValueIdx.hostReduceAdd_apply]
  refine (Ideal.hostReduceAdd_r4_a0 _ _ _ _).trans ?_
  refine (congrArg₂ (· + ·) Ideal.ofBits_zero_f32 (Finset.sum_congr rfl fun c _ => ?_)).trans (zero_add _)
  rw [ValueIdx.extf_apply]
  exact split_apply x c j

end Cert.ReferenceIdealSum
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdealValue
public import proofs.«01_k».proof.Proof.ReferenceIdealValue
public import proofs.«01_k».proof.Proof.KernelRun
public import Idealize.ShloMosaic.Adequacy
public import Idealize.ShloMosaic.Init

@[expose] public section

noncomputable section

namespace Cert.Proof

open Idealize.ShloMosaic Idealize.SL.Sem Cert.Kernel

/-- The kernel runs, leaves its argument as it was and every semaphore counter at zero. -/
theorem frame_Kernel : Cert.quiescent_Kernel (hKernel := Cert.Kernel.Gen.facts) := fun m g _ =>
  (θ_run _ _ _).mono (fun _ h => ⟨fun c => (h.1 c 0).trans (Cert.KernelRing.finalA_x m g c), h.2⟩) (Cert.KernelRing.run_main m g)

/-- The same of the kernel over the extended reals. -/
theorem frame_KernelIdeal : Cert.quiescent_KernelIdeal (hKernelIdeal := Cert.KernelIdeal.Gen.facts) := fun m g _ =>
  (θ_run _ _ _).mono (fun _ h => ⟨fun c => (h.1 c).2, h.2⟩) (Cert.KernelIdealRing.run_arrays m g)

/-- The reference declares no semaphore. -/
theorem reference_sem (f : GSem Cert.ReferenceIdeal.nD Cert.ReferenceIdeal.τ Cert.ReferenceIdeal.sig → ℤ) : f = fun _ => 0 :=
  funext fun s => match s with
  | ⟨_, .reg x⟩ => x.elim0
  | ⟨_, .dma x⟩ => x.elim0

/-- The reference runs, leaves its argument as it was and every semaphore counter at zero. -/
theorem frame_ReferenceIdeal : Cert.quiescent_ReferenceIdeal (hReferenceIdeal := Cert.ReferenceIdeal.Gen.facts) := fun m g _ =>
  (θ_run _ _ _).mono (fun _ h => ⟨fun c => (h c).2, reference_sem _⟩) (Cert.ReferenceIdeal.Value.run m g)

/-- Over the extended reals every device ends with the sum, over the sixteen blocks of the whole argument, of the
block's entry at each index, which is what the reference computes. -/
theorem values : Cert.algebraic_KernelIdeal_ReferenceIdeal (hKernelIdeal := Cert.KernelIdeal.Gen.facts) (hReferenceIdeal := Cert.ReferenceIdeal.Gen.facts) := by
  intro m g m' g' _ hm
  refine ⟨Cert.KernelIdealRing.outF (Cert.KernelIdealRing.xstg m g), ?_, ?_⟩
  · exact (θ_run _ _ _).mono (fun _ h => h.1) (Cert.KernelIdealRing.run_arrays m g)
  · refine (θ_run _ _ _).mono (fun _ h => ⟨(h 0).1.trans (funext fun j => ?_), (h 0).2⟩) (Cert.ReferenceIdeal.Value.run m' g')
    have e : (∑ c : Dev Cert.KernelIdeal.nD, Cert.KernelIdealRing.cell (Cert.KernelIdealRing.xstg m g) c j)
        = ∑ c : Fin 16, (Layout.block ⟨3, ![32, 128, 1024]⟩ ⟨3, ![512, 128, 1024]⟩ 0 16 c
          (m' (((0 : Dev Cert.ReferenceIdeal.nD).tc : Thread Cert.ReferenceIdeal.nD Cert.ReferenceIdeal.τ).loc Cert.ReferenceIdeal.main_arg0) : Cert.ReferenceIdeal.S512x128x1024.Idx → EReal) : Cert.ReferenceIdeal.S32x128x1024.Idx → EReal) j :=
      Finset.sum_congr rfl fun c _ => (Cert.KernelIdealRing.xstg_apply m g c j).trans (congrFun (hm c) j)
    exact (Cert.ReferenceIdealSum.result_apply _ j).trans (((Cert.KernelIdealRing.outF_apply _ j).trans e).symm)

/-- All five claims. -/
theorem claim : Cert.Claim := ⟨Cert.Kernel.Gen.facts, Cert.KernelIdeal.Gen.facts, Cert.ReferenceIdeal.Gen.facts,
  frame_Kernel, frame_KernelIdeal, frame_ReferenceIdeal, trivial, values⟩

end Cert.Proof

end
